-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v57) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v60_0)) (v1 : (c : Dev Cert.InprojIdeal.nD) → Buf (Elt Ideal) ((c.tc : Thread Cert.InprojIdeal.nD Cert.InprojIdeal.τ).loc Cert.InprojIdeal.main_v60_1)) (v2 : (c : Dev Cert.InprojIdeal.nD) → Buf (Elt Ideal) ((c.tc : Thread Cert.InprojIdeal.nD Cert.InprojIdeal.τ).loc Cert.InprojIdeal.main_v60_2)) (v3 : (c : Dev Cert.InprojIdeal.nD) → Buf (Elt Ideal) ((c.tc : Thread Cert.InprojIdeal.nD Cert.InprojIdeal.τ).loc Cert.InprojIdeal.main_v60_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v60_0) = v0 c
          ∧ r.2.mem ((c.tc : Thread Cert.InprojIdeal.nD Cert.InprojIdeal.τ).loc Cert.InprojIdeal.main_v60_1) = v1 c
          ∧ r.2.mem ((c.tc : Thread Cert.InprojIdeal.nD Cert.InprojIdeal.τ).loc Cert.InprojIdeal.main_v60_2) = v2 c
          ∧ r.2.mem ((c.tc : Thread Cert.InprojIdeal.nD Cert.InprojIdeal.τ).loc Cert.InprojIdeal.main_v60_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v132) = v0 c
          ∧ r.2.mem ((c.tc : Thread Cert.InprojReferenceIdeal.nD Cert.InprojReferenceIdeal.τ).loc Cert.InprojReferenceIdeal.main_v21) = v1 c
          ∧ r.2.mem ((c.tc : Thread Cert.InprojReferenceIdeal.nD Cert.InprojReferenceIdeal.τ).loc Cert.InprojReferenceIdeal.main_v22) = v2 c
          ∧ r.2.mem ((c.tc : Thread Cert.InprojReferenceIdeal.nD Cert.InprojReferenceIdeal.τ).loc Cert.InprojReferenceIdeal.main_v138) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)) →
    ∃ (v0 : (c : Dev Cert.CompressIdeal.nD) → Buf (Elt Ideal) ((c.tc : Thread Cert.CompressIdeal.nD Cert.CompressIdeal.τ).loc Cert.CompressIdeal.main_v79_0)) (v1 : (c : Dev Cert.CompressIdeal.nD) → Buf (Elt Ideal) ((c.tc : Thread Cert.CompressIdeal.nD Cert.CompressIdeal.τ).loc Cert.CompressIdeal.main_v79_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v79_0) = v0 c
          ∧ r.2.mem ((c.tc : Thread Cert.CompressIdeal.nD Cert.CompressIdeal.τ).loc Cert.CompressIdeal.main_v79_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v76) = v0 c
          ∧ r.2.mem ((c.tc : Thread Cert.CompressReferenceIdeal.nD Cert.CompressReferenceIdeal.τ).loc Cert.CompressReferenceIdeal.main_v78) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hCompress : Cert.Compress.Facts) (hCompressIdeal : Cert.CompressIdeal.Facts) (hCompressReferenceIdeal : Cert.CompressReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
    ∧ preserves_Compress_CompressIdeal
    ∧ algebraic_CompressIdeal_CompressReferenceIdeal (hCompressIdeal := hCompressIdeal) (hCompressReferenceIdeal := hCompressReferenceIdeal)
-- ==== Kernel.lean ====
abbrev S32768x3072 : Shape := ⟨2, ![32768, 3072]⟩
abbrev S32768x256 : Shape := ⟨2, ![32768, 256]⟩
abbrev S256x128 : Shape := ⟨2, ![256, 128]⟩
abbrev S8192x128 : Shape := ⟨2, ![8192, 128]⟩
abbrev S512x1 : Shape := ⟨2, ![512, 1]⟩
abbrev S512x128 : Shape := ⟨2, ![512, 128]⟩
abbrev S512x256 : Shape := ⟨2, ![512, 256]⟩
abbrev S256x256 : Shape := ⟨2, ![256, 256]⟩
abbrev S512 : Shape := ⟨1, ![512]⟩

abbrev nBuf : Space → Nat
  | .hbm => 2
  | .vmem => 10
  | .smem => 0
  | _ => 0

abbrev bufTy : (tb : Table) → Fin (tcTables nBuf tb) → BufTy
  | .hbm, ⟨0, _⟩ => ⟨S32768x3072, .bf16⟩
  | .hbm, ⟨1, _⟩ => ⟨S32768x256, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S512x1, .f32⟩
  | .local _ .vmem, ⟨9, _⟩ => ⟨S512x128, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c256_i32 : BitVec 32 := 256#32
  let v28 : BitVec 32 := Scalar.muli arg2 c256_i32
  v28
def k0_off1 (i : grid0.Coords) : Fin 2 → Nat :=
  let arg2 : BitVec 32 := BitVec.ofNat 32 (i 2).val
  let c256_i32 : BitVec 32 := 256#32
  let v28 : BitVec 32 := Scalar.muli arg2 c256_i32
  let v29 : BitVec 32 := v28
  let v30 : Index := Scalar.indexCast v29
  let c0_9 : Index := 0#32
  ![v30.toNat, 0]
@[reducible] def k0_t1_loop (i : grid0.Coords) : Scf.Loop 32 :=
  let c0_i32_31 : BitVec 32 := 0#32
  let arg2 : BitVec 32 := BitVec.ofNat 32 (i 2).val
  let v76 : BitVec 32 := Scalar.subi arg2 c0_i32_31
  let c1_i32 : BitVec 32 := 1#32
  let v78 : BitVec 32 := Scalar.divsi v76 c1_i32
  let v79 : BitVec 32 := Scalar.muli v78 c1_i32
  let v80 : BitVec 32 := Scalar.addi c0_i32_31 v79
  let c1_i32_32 : BitVec 32 := 1#32
  ⟨c0_i32_31, v80, c1_i32_32⟩
def k0_mult2 (i : grid0.Coords) (k0_t1 : Fin (k0_t1_loop i).trips) : BitVec 32 :=
  let arg2 : BitVec 32 := BitVec.ofNat 32 (i 2).val
  let c1_i32_39 : BitVec 32 := 1#32
  let v90 : BitVec 32 := Scalar.subi arg2 c1_i32_39
  let c0_i32_31 : BitVec 32 := 0#32
  let c1_i32_32 : BitVec 32 := 1#32
  let arg9 : BitVec 32 := Scf.iv c0_i32_31 c1_i32_32 k0_t1
  let v91 : BitVec 32 := Scalar.subi v90 arg9
  let c256_i32_40 : BitVec 32 := 256#32
  let v92 : BitVec 32 := Scalar.muli v91 c256_i32_40
  v92
def k0_off2 (i : grid0.Coords) (k0_t1 : Fin (k0_t1_loop i).trips) : Fin 2 → Nat :=
  let arg2 : BitVec 32 := BitVec.ofNat 32 (i 2).val
  let c1_i32_39 : BitVec 32 := 1#32
  let v90 : BitVec 32 := Scalar.subi arg2 c1_i32_39
  let c0_i32_31 : BitVec 32 := 0#32
  let c1_i32_32 : BitVec 32 := 1#32
  let arg9 : BitVec 32 := Scf.iv c0_i32_31 c1_i32_32 k0_t1
  let v91 : BitVec 32 := Scalar.subi v90 arg9
  let c256_i32_40 : BitVec 32 := 256#32
  let v92 : BitVec 32 := Scalar.muli v91 c256_i32_40
  let v93 : BitVec 32 := v92
  let v94 : Index := Scalar.indexCast v93
  let c0_41 : Index := 0#32
  ![v94.toNat, 0]
@[reducible] def k0_t2_loop (i : grid0.Coords) : Scf.Loop 32 :=
  let c0_i32_31 : BitVec 32 := 0#32
  let arg2 : BitVec 32 := BitVec.ofNat 32 (i 2).val
  let v76 : BitVec 32 := Scalar.subi arg2 c0_i32_31
  let c1_i32 : BitVec 32 := 1#32
  let v78 : BitVec 32 := Scalar.divsi v76 c1_i32
  let v79 : BitVec 32 := Scalar.muli v78 c1_i32
  let v80 : BitVec 32 := Scalar.addi c0_i32_31 v79
  let v77 : BitVec 32 := Scalar.addi c0_i32_31 v76
  let c1_i32_33 : BitVec 32 := 1#32
  ⟨v80, v77, c1_i32_33⟩
def k0_mult3 (i : grid0.Coords) (k0_t2 : Fin (k0_t2_loop i).trips) : BitVec 32 :=
  let arg2 : BitVec 32 := BitVec.ofNat 32 (i 2).val
  let c1_i32_39 : BitVec 32 := 1#32
  let v90 : BitVec 32 := Scalar.subi arg2 c1_i32_39
  let c0_i32_31 : BitVec 32 := 0#32
  let v76 : BitVec 32 := Scalar.subi arg2 c0_i32_31
  let c1_i32 : BitVec 32 := 1#32
  let v78 : BitVec 32 := Scalar.divsi v76 c1_i32
  let v79 : BitVec 32 := Scalar.muli v78 c1_i32
  let v80 : BitVec 32 := Scalar.addi c0_i32_31 v79
  let c1_i32_33 : BitVec 32 := 1#32
  let arg9 : BitVec 32 := Scf.iv v80 c1_i32_33 k0_t2
  let v91 : BitVec 32 := Scalar.subi v90 arg9
  let c256_i32_40 : BitVec 32 := 256#32
  let v92 : BitVec 32 := Scalar.muli v91 c256_i32_40
  v92
def k0_off3 (i : grid0.Coords) (k0_t2 : Fin (k0_t2_loop i).trips) : Fin 2 → Nat :=
  let arg2 : BitVec 32 := BitVec.ofNat 32 (i 2).val
  let c1_i32_39 : BitVec 32 := 1#32
  let v90 : BitVec 32 := Scalar.subi arg2 c1_i32_39
  let c0_i32_31 : BitVec 32 := 0#32
  let v76 : BitVec 32 := Scalar.subi arg2 c0_i32_31
  let c1_i32 : BitVec 32 := 1#32
  let v78 : BitVec 32 := Scalar.divsi v76 c1_i32
  let v79 : BitVec 32 := Scalar.muli v78 c1_i32
  let v80 : BitVec 32 := Scalar.addi c0_i32_31 v79
  let c1_i32_33 : BitVec 32 := 1#32
  let arg9 : BitVec 32 := Scf.iv v80 c1_i32_33 k0_t2
  let v91 : BitVec 32 := Scalar.subi v90 arg9
  let c256_i32_40 : BitVec 32 := 256#32
  let v92 : BitVec 32 := Scalar.muli v91 c256_i32_40
  let v93 : BitVec 32 := v92
  let v94 : Index := Scalar.indexCast v93
  let c0_41 : Index := 0#32
  ![v94.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x3072 : Shape := ⟨2, ![32768, 3072]⟩
abbrev S32768x256 : Shape := ⟨2, ![32768, 256]⟩
abbrev S4x8192x4x64 : Shape := ⟨4, ![4, 8192, 4, 64]⟩
abbrev S4x4x8192x64 : Shape := ⟨4, ![4, 4, 8192, 64]⟩
abbrev S4x4x8192x8192 : Shape := ⟨4, ![4, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x3072, .f32⟩
  | .hbm, ⟨2, _⟩ => ⟨S32768x256, .f32⟩
  | .hbm, ⟨3, _⟩ => ⟨S4x8192x4x64, .f32⟩
  | .hbm, ⟨4, _⟩ => ⟨S4x4x8192x64, .f32⟩
  | .hbm, ⟨5, _⟩ => ⟨S32768x256, .f32⟩
  | .hbm, ⟨6, _⟩ => ⟨S4x8192x4x64, .f32⟩
  | .hbm, ⟨7, _⟩ => ⟨S4x4x8192x64, .f32⟩
  | .hbm, ⟨8, _⟩ => ⟨S32768x256, .f32⟩
  | .hbm, ⟨9, _⟩ => ⟨S4x8192x4x64, .f32⟩
  | .hbm, ⟨10, _⟩ => ⟨S4x4x8192x64, .f32⟩
  | .hbm, ⟨11, _⟩ => ⟨S4x4x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S4x4x8192x8192, .f32⟩
  | .hbm, ⟨20, _⟩ => ⟨S4x4x8192x8192, .f32⟩
  | .hbm, ⟨21, _⟩ => ⟨S_, .f32⟩
  | .hbm, ⟨22, _⟩ => ⟨S4x4x8192x8192, .f32⟩
  | .hbm, ⟨23, _⟩ => ⟨S4x4x8192x8192, .f32⟩
  | .hbm, ⟨24, _⟩ => ⟨S4x4x8192x8192, .f32⟩
  | .hbm, ⟨25, _⟩ => ⟨S4x4x8192x8192, .f32⟩
  | .hbm, ⟨26, _⟩ => ⟨S4x4x8192x8192, .i1⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S4x4x8192x8192, .f32⟩
  | .hbm, ⟨31, _⟩ => ⟨S4x4x8192x8192, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S4x4x8192x8192, .f32⟩
  | .hbm, ⟨36, _⟩ => ⟨S_, .f32⟩
  | .hbm, ⟨37, _⟩ => ⟨S_, .f32⟩
  | .hbm, ⟨38, _⟩ => ⟨S4x4x8192x8192, .i1⟩
  | .hbm, ⟨39, _⟩ => ⟨S4x4x8192x8192, .f32⟩
  | .hbm, ⟨40, _⟩ => ⟨S4x4x8192x8192, .f32⟩
  | .hbm, ⟨41, _⟩ => ⟨S_, .f32⟩
  | .hbm, ⟨42, _⟩ => ⟨S_, .f32⟩
  | .hbm, ⟨43, _⟩ => ⟨S4x4x8192x8192, .f32⟩
  | .hbm, ⟨44, _⟩ => ⟨S4x4x8192x8192, .f32⟩
  | .hbm, ⟨45, _⟩ => ⟨S4x4x8192x8192, .f32⟩
  | .hbm, ⟨46, _⟩ => ⟨S_, .f32⟩
  | .hbm, ⟨47, _⟩ => ⟨S4x4x8192x8192, .f32⟩
  | .hbm, ⟨48, _⟩ => ⟨S4x4x8192x8192, .f32⟩
  | .hbm, ⟨49, _⟩ => ⟨S4x4x8192x8192, .f32⟩
  | .hbm, ⟨50, _⟩ => ⟨S4x4x8192x8192, .f32⟩
  | .hbm, ⟨51, _⟩ => ⟨S4x4x8192x8192, .i1⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x8192x8192, .f32⟩
  | .hbm, ⟨56, _⟩ => ⟨S4x4x8192x8192, .f32⟩
  | .hbm, ⟨57, _⟩ => ⟨S4x4x8192x8192, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S4x4x8192x8192, .f32⟩
  | .hbm, ⟨62, _⟩ => ⟨S4x4x8192x8192, .f32⟩
  | .hbm, ⟨63, _⟩ => ⟨S_, .f32⟩
  | .hbm, ⟨64, _⟩ => ⟨S_, .f32⟩
  | .hbm, ⟨65, _⟩ => ⟨S4x4x8192x8192, .i1⟩
  | .hbm, ⟨66, _⟩ => ⟨S4x4x8192x8192, .f32⟩
  | .hbm, ⟨67, _⟩ => ⟨S4x4x8192x8192, .f32⟩
  | .hbm, ⟨68, _⟩ => ⟨S4x4x8192x64, .f32⟩
  | .hbm, ⟨69, _⟩ => ⟨S4x8192x4x64, .f32⟩
  | .hbm, ⟨70, _⟩ => ⟨S32768x256, .f32⟩
  | .hbm, ⟨71, _⟩ => ⟨S32768x256, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Merge.lean ====
abbrev S32768x1024 : Shape := ⟨2, ![32768, 1024]⟩
abbrev S1024 : Shape := ⟨1, ![1024]⟩
abbrev S32768x256 : Shape := ⟨2, ![32768, 256]⟩
abbrev S32768x512 : Shape := ⟨2, ![32768, 512]⟩
abbrev S1024x5912 : Shape := ⟨2, ![1024, 5912]⟩
abbrev S1024x1024 : Shape := ⟨2, ![1024, 1024]⟩
abbrev S1024x3072 : Shape := ⟨2, ![1024, 3072]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x256, .bf16⟩
  | .hbm, ⟨3, _⟩ => ⟨S32768x256, .bf16⟩
  | .hbm, ⟨4, _⟩ => ⟨S32768x512, .bf16⟩
  | .hbm, ⟨5, _⟩ => ⟨S1024x5912, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x3072, .bf16⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x512, .bf16⟩
  | .local _ .vmem, ⟨8, _⟩ => ⟨S512x512, .bf16⟩
  | .local _ .vmem, ⟨9, _⟩ => ⟨S1024x3072, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S32768x1024 : Shape := ⟨2, ![32768, 1024]⟩
abbrev S1024 : Shape := ⟨1, ![1024]⟩
abbrev S32768x256 : Shape := ⟨2, ![32768, 256]⟩
abbrev S32768x512 : Shape := ⟨2, ![32768, 512]⟩
abbrev S1024x5912 : Shape := ⟨2, ![1024, 5912]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5912 : Shape := ⟨2, ![32768, 5912]⟩
abbrev S32768x128 : Shape := ⟨2, ![32768, 128]⟩
abbrev S32768x24 : Shape := ⟨2, ![32768, 24]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S256x1024 : Shape := ⟨2, ![256, 1024]⟩
abbrev S512x1024 : Shape := ⟨2, ![512, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x256, .bf16⟩
  | .hbm, ⟨3, _⟩ => ⟨S32768x256, .bf16⟩
  | .hbm, ⟨4, _⟩ => ⟨S32768x512, .bf16⟩
  | .hbm, ⟨5, _⟩ => ⟨S1024x5912, .f32⟩
  | .hbm, ⟨6, _⟩ => ⟨S1024x1024, .f32⟩
  | .hbm, ⟨7, _⟩ => ⟨S1024x1024, .f32⟩
  | .hbm, ⟨8, _⟩ => ⟨S32768x256, .f32⟩
  | .hbm, ⟨9, _⟩ => ⟨S32768x256, .f32⟩
  | .hbm, ⟨10, _⟩ => ⟨S32768x512, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x5912, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x512, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x24, .f32⟩
  | .hbm, ⟨42, _⟩ => ⟨S32768x3072, .f32⟩
  | .hbm, ⟨43, _⟩ => ⟨S32768x3x1024, .f32⟩
  | .hbm, ⟨44, _⟩ => ⟨S32768x3x1024, .f32⟩
  | .hbm, ⟨45, _⟩ => ⟨S32768x3x1024, .f32⟩
  | .hbm, ⟨46, _⟩ => ⟨S_, .f32⟩
  | .hbm, ⟨47, _⟩ => ⟨S32768x3x1024, .f32⟩
  | .hbm, ⟨48, _⟩ => ⟨S32768x3x1024, .f32⟩
  | .hbm, ⟨49, _⟩ => ⟨S_, .f32⟩
  | .hbm, ⟨50, _⟩ => ⟨S32768x3x1024, .f32⟩
  | .hbm, ⟨51, _⟩ => ⟨S32768x3x1024, .f32⟩
  | .hbm, ⟨52, _⟩ => ⟨S32768x1x1024, .f32⟩
  | .hbm, ⟨53, _⟩ => ⟨S32768x1024, .f32⟩
  | .hbm, ⟨54, _⟩ => ⟨S256x1024, .f32⟩
  | .hbm, ⟨55, _⟩ => ⟨S32768x1024, .f32⟩
  | .hbm, ⟨56, _⟩ => ⟨S32768x1024, .f32⟩
  | .hbm, ⟨57, _⟩ => ⟨S32768x1x1024, .f32⟩
  | .hbm, ⟨58, _⟩ => ⟨S32768x1024, .f32⟩
  | .hbm, ⟨59, _⟩ => ⟨S256x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1x1024, .f32⟩
  | .hbm, ⟨64, _⟩ => ⟨S32768x1024, .f32⟩
  | .hbm, ⟨65, _⟩ => ⟨S512x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x5912 : Shape := ⟨2, ![1024, 5912]⟩
abbrev S64 : Shape := ⟨1, ![64]⟩
abbrev S3x64 : Shape := ⟨2, ![3, 64]⟩
abbrev S1024x128 : Shape := ⟨2, ![1024, 128]⟩
abbrev S1024x24 : Shape := ⟨2, ![1024, 24]⟩
abbrev S1024x3x2x4 : Shape := ⟨4, ![1024, 3, 2, 4]⟩
abbrev S1024x2048 : Shape := ⟨2, ![1024, 2048]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S1024x3072 : Shape := ⟨2, ![1024, 3072]⟩
abbrev S1024x3x1x4 : Shape := ⟨4, ![1024, 3, 1, 4]⟩
abbrev S1024x3x4 : Shape := ⟨3, ![1024, 3, 4]⟩
abbrev S1024x12 : Shape := ⟨2, ![1024, 12]⟩
abbrev S_ : Shape := ⟨0, ![]⟩
abbrev S1024x512 : Shape := ⟨2, ![1024, 512]⟩
abbrev S128 : Shape := ⟨1, ![128]⟩
abbrev S1x64 : Shape := ⟨2, ![1, 64]⟩
abbrev S2048 : Shape := ⟨1, ![2048]⟩
abbrev S3072 : Shape := ⟨1, ![3072]⟩
abbrev S1x3072 : Shape := ⟨2, ![1, 3072]⟩
abbrev S1x1024 : Shape := ⟨2, ![1, 1024]⟩
abbrev S32768x3072 : Shape := ⟨2, ![32768, 3072]⟩
abbrev S32768x128 : Shape := ⟨2, ![32768, 128]⟩
abbrev S32768x256 : Shape := ⟨2, ![32768, 256]⟩
abbrev S512x1024 : Shape := ⟨2, ![512, 1024]⟩
abbrev S512x3072 : Shape := ⟨2, ![512, 3072]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x128 : Shape := ⟨2, ![1, 128]⟩
abbrev S512x512 : Shape := ⟨2, ![512, 512]⟩

abbrev nBuf : Space → Nat
  | .hbm => 82
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5912, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3x64, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x24, .f32⟩
  | .hbm, ⟨14, _⟩ => ⟨S1024x3x2x4, .f32⟩
  | .hbm, ⟨15, _⟩ => ⟨S1024x2048, .f32⟩
  | .hbm, ⟨16, _⟩ => ⟨S1024x2x1x64, .f32⟩
  | .hbm, ⟨17, _⟩ => ⟨S1024x2x2x64, .f32⟩
  | .hbm, ⟨18, _⟩ => ⟨S1024x256, .f32⟩
  | .hbm, ⟨19, _⟩ => ⟨S1024x2x1x64, .f32⟩
  | .hbm, ⟨20, _⟩ => ⟨S1024x2x2x64, .f32⟩
  | .hbm, ⟨21, _⟩ => ⟨S1024x256, .f32⟩
  | .hbm, ⟨22, _⟩ => ⟨S1024x2x1x64, .f32⟩
  | .hbm, ⟨23, _⟩ => ⟨S1024x2x2x64, .f32⟩
  | .hbm, ⟨24, _⟩ => ⟨S1024x256, .f32⟩
  | .hbm, ⟨25, _⟩ => ⟨S1024x2x1x64, .f32⟩
  | .hbm, ⟨26, _⟩ => ⟨S1024x2x2x64, .f32⟩
  | .hbm, ⟨27, _⟩ => ⟨S1024x256, .f32⟩
  | .hbm, ⟨28, _⟩ => ⟨S1024x3072, .f32⟩
  | .hbm, ⟨29, _⟩ => ⟨S1024x3072, .bf16⟩
  | .hbm, ⟨30, _⟩ => ⟨S1024x3x1x4, .f32⟩
  | .hbm, ⟨31, _⟩ => ⟨S1024x3x4, .f32⟩
  | .hbm, ⟨32, _⟩ => ⟨S1024x12, .f32⟩
  | .hbm, ⟨33, _⟩ => ⟨S_, .i32⟩
  | .hbm, ⟨34, _⟩ => ⟨S_, .f32⟩
  | .hbm, ⟨35, _⟩ => ⟨S1024x128, .f32⟩
  | .hbm, ⟨36, _⟩ => ⟨S1024x3x1x4, .f32⟩
  | .hbm, ⟨37, _⟩ => ⟨S1024x3x4, .f32⟩
  | .hbm, ⟨38, _⟩ => ⟨S1024x12, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x512, .f32⟩
  | .hbm, ⟨43, _⟩ => ⟨S1024x512, .bf16⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x64, .f32⟩
  | .hbm, ⟨62, _⟩ => ⟨S64, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x64, .f32⟩
  | .hbm, ⟨68, _⟩ => ⟨S64, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S2048, .f32⟩
  | .hbm, ⟨74, _⟩ => ⟨S1024, .f32⟩
  | .hbm, ⟨75, _⟩ => ⟨S3072, .f32⟩
  | .hbm, ⟨76, _⟩ => ⟨S1x3072, .f32⟩
  | .hbm, ⟨77, _⟩ => ⟨S1x1024, .f32⟩
  | .hbm, ⟨78, _⟩ => ⟨S32768x3072, .bf16⟩
  | .hbm, ⟨79, _⟩ => ⟨S32768x128, .f32⟩
  | .hbm, ⟨80, _⟩ => ⟨S32768x128, .f32⟩
  | .hbm, ⟨81, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x512, .bf16⟩
  | .local _ .vmem, ⟨5, _⟩ => ⟨S1x3072, .f32⟩
  | .local _ .vmem, ⟨6, _⟩ => ⟨S512x3072, .bf16⟩
  | .local _ .vmem, ⟨7, _⟩ => ⟨S512x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_0 : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojReferenceIdeal.lean ====
abbrev S32768x1024 : Shape := ⟨2, ![32768, 1024]⟩
abbrev S1024 : Shape := ⟨1, ![1024]⟩
abbrev S1024x5912 : Shape := ⟨2, ![1024, 5912]⟩
abbrev S64 : Shape := ⟨1, ![64]⟩
abbrev S3x64 : Shape := ⟨2, ![3, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5912 : Shape := ⟨2, ![32768, 5912]⟩
abbrev S32768x256 : Shape := ⟨2, ![32768, 256]⟩
abbrev S32768x512 : Shape := ⟨2, ![32768, 512]⟩
abbrev S32768x128 : Shape := ⟨2, ![32768, 128]⟩
abbrev S32768x24 : Shape := ⟨2, ![32768, 24]⟩
abbrev S32768x3072 : Shape := ⟨2, ![32768, 3072]⟩
abbrev S32768x4x64 : Shape := ⟨3, ![32768, 4, 64]⟩
abbrev S32768x4 : Shape := ⟨2, ![32768, 4]⟩
abbrev S32768x4x1 : Shape := ⟨3, ![32768, 4, 1]⟩
abbrev S1x1x64 : Shape := ⟨3, ![1, 1, 64]⟩
abbrev S32768x8x64 : Shape := ⟨3, ![32768, 8, 64]⟩
abbrev S32768x8 : Shape := ⟨2, ![32768, 8]⟩
abbrev S32768x8x1 : Shape := ⟨3, ![32768, 8, 1]⟩
abbrev S1x64 : Shape := ⟨2, ![1, 64]⟩
abbrev S32768x2x64 : Shape := ⟨3, ![32768, 2, 64]⟩
abbrev S32768x2 : Shape := ⟨2, ![32768, 2]⟩
abbrev S32768x2x1 : Shape := ⟨3, ![32768, 2, 1]⟩
abbrev S32768x2x1x64 : Shape := ⟨4, ![32768, 2, 1, 64]⟩
abbrev S32768x2x2x64 : Shape := ⟨4, ![32768, 2, 2, 64]⟩
abbrev S32768x3x2x4 : Shape := ⟨4, ![32768, 3, 2, 4]⟩
abbrev S32768x2x3x4 : Shape := ⟨4, ![32768, 2, 3, 4]⟩
abbrev S32768x2x12 : Shape := ⟨3, ![32768, 2, 12]⟩
abbrev S32768x2x128 : Shape := ⟨3, ![32768, 2, 128]⟩

abbrev nBuf : Space → Nat
  | .hbm => 171
  | .vmem => 0
  | .smem => 0
  | _ => 0

abbrev hbmTy0_0 (i : Nat) : BufTy := match i % 128 with
  | 0 => ⟨S32768x1024, .f32⟩
  | 1 => ⟨S1024, .f32⟩
  | 2 => ⟨S1024x5912, .f32⟩
  | 3 => ⟨S64, .f32⟩
  | 4 => ⟨S64, .f32⟩
  | 5 => ⟨S64, .f32⟩
  | 6 => ⟨S3x64, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S32768x5912, .f32⟩
  | 24 => ⟨S32768x256, .f32⟩
  | 25 => ⟨S32768x256, .f32⟩
  | 26 => ⟨S32768x256, .f32⟩
  | 27 => ⟨S32768x256, .f32⟩
  | 28 => ⟨S32768x256, .f32⟩
  | 29 => ⟨S32768x256, .f32⟩
  | 30 => ⟨S32768x512, .f32⟩
  | 31 => ⟨S32768x128, .f32⟩
  | 32 => ⟨S32768x128, .f32⟩
  | 33 => ⟨S32768x128, .f32⟩
  | 34 => ⟨S32768x128, .f32⟩
  | 35 => ⟨S32768x128, .f32⟩
  | 36 => ⟨S32768x128, .f32⟩
  | 37 => ⟨S32768x24, .f32⟩
  | 38 => ⟨S32768x3072, .f32⟩
  | 39 => ⟨S_, .f32⟩
  | 40 => ⟨S32768x256, .f32⟩
  | 41 => ⟨S32768x256, .f32⟩
  | 42 => ⟨S32768x4x64, .f32⟩
  | 43 => ⟨S32768x4x64, .f32⟩
  | 44 => ⟨S_, .f32⟩
  | 45 => ⟨S32768x4, .f32⟩
  | 46 => ⟨S32768x4x1, .f32⟩
  | 47 => ⟨S_, .f32⟩
  | 48 => ⟨S32768x4x1, .f32⟩
  | 49 => ⟨S32768x4x1, .f32⟩
  | 50 => ⟨S_, .f32⟩
  | 51 => ⟨S32768x4x1, .f32⟩
  | 52 => ⟨S32768x4x1, .f32⟩
  | 53 => ⟨S32768x4x1, .f32⟩
  | 54 => ⟨S32768x4x64, .f32⟩
  | 55 => ⟨S32768x4x64, .f32⟩
  | 56 => ⟨S1x1x64, .f32⟩
  | 57 => ⟨S32768x4x64, .f32⟩
  | 58 => ⟨S32768x4x64, .f32⟩
  | 59 => ⟨S32768x256, .f32⟩
  | 60 => ⟨S_, .f32⟩
  | 61 => ⟨S32768x256, .f32⟩
  | 62 => ⟨S32768x256, .f32⟩
  | 63 => ⟨S32768x4x64, .f32⟩
  | 64 => ⟨S32768x4x64, .f32⟩
  | 65 => ⟨S_, .f32⟩
  | 66 => ⟨S32768x4, .f32⟩
  | 67 => ⟨S32768x4x1, .f32⟩
  | 68 => ⟨S_, .f32⟩
  | 69 => ⟨S32768x4x1, .f32⟩
  | 70 => ⟨S32768x4x1, .f32⟩
  | 71 => ⟨S_, .f32⟩
  | 72 => ⟨S32768x4x1, .f32⟩
  | 73 => ⟨S32768x4x1, .f32⟩
  | 74 => ⟨S32768x4x1, .f32⟩
  | 75 => ⟨S32768x4x64, .f32⟩
  | 76 => ⟨S32768x4x64, .f32⟩
  | 77 => ⟨S1x1x64, .f32⟩
  | 78 => ⟨S32768x4x64, .f32⟩
  | 79 => ⟨S32768x4x64, .f32⟩
  | 80 => ⟨S32768x256, .f32⟩
  | 81 => ⟨S32768x8x64, .f32⟩
  | 82 => ⟨S32768x8x64, .f32⟩
  | 83 => ⟨S_, .f32⟩
  | 84 => ⟨S32768x8, .f32⟩
  | 85 => ⟨S32768x8x1, .f32⟩
  | 86 => ⟨S_, .f32⟩
  | 87 => ⟨S32768x8x1, .f32⟩
  | 88 => ⟨S32768x8x1, .f32⟩
  | 89 => ⟨S_, .f32⟩
  | 90 => ⟨S32768x8x1, .f32⟩
  | 91 => ⟨S32768x8x1, .f32⟩
  | 92 => ⟨S32768x8x1, .f32⟩
  | 93 => ⟨S32768x8x64, .f32⟩
  | 94 => ⟨S32768x8x64, .f32⟩
  | 95 => ⟨S1x1x64, .f32⟩
  | 96 => ⟨S32768x8x64, .f32⟩
  | 97 => ⟨S32768x8x64, .f32⟩
  | 98 => ⟨S32768x512, .f32⟩
  | 99 => ⟨S_, .f32⟩
  | 100 => ⟨S32768x512, .f32⟩
  | 101 => ⟨S32768x512, .f32⟩
  | 102 => ⟨S1x64, .f32⟩
  | 103 => ⟨S64, .f32⟩
  | 104 => ⟨S32768x2x64, .f32⟩
  | 105 => ⟨S32768x2x64, .f32⟩
  | 106 => ⟨S_, .f32⟩
  | 107 => ⟨S32768x2, .f32⟩
  | 108 => ⟨S32768x2x1, .f32⟩
  | 109 => ⟨S_, .f32⟩
  | 110 => ⟨S32768x2x1, .f32⟩
  | 111 => ⟨S32768x2x1, .f32⟩
  | 112 => ⟨S_, .f32⟩
  | 113 => ⟨S32768x2x1, .f32⟩
  | 114 => ⟨S32768x2x1, .f32⟩
  | 115 => ⟨S32768x2x1, .f32⟩
  | 116 => ⟨S32768x2x64, .f32⟩
  | 117 => ⟨S32768x2x64, .f32⟩
  | 118 => ⟨S1x1x64, .f32⟩
  | 119 => ⟨S32768x2x64, .f32⟩
  | 120 => ⟨S32768x2x64, .f32⟩
  | 121 => ⟨S32768x128, .f32⟩
  | 122 => ⟨S32768x2x1x64, .f32⟩
  | 123 => ⟨S32768x2x2x64, .f32⟩
  | 124 => ⟨S32768x256, .f32⟩
  | 125 => ⟨S32768x2x1x64, .f32⟩
  | 126 => ⟨S32768x2x2x64, .f32⟩
  | 127 => ⟨S32768x256, .f32⟩
  | _ => ⟨S32768x1024, .f32⟩

abbrev hbmTy0_1 (i : Nat) : BufTy := match i % 128 with
  | 0 => ⟨S1x64, .f32⟩
  | 1 => ⟨S64, .f32⟩
  | 2 => ⟨S32768x2x64, .f32⟩
  | 3 => ⟨S32768x2x64, .f32⟩
  | 4 => ⟨S_, .f32⟩
  | 5 => ⟨S32768x2, .f32⟩
  | 6 => ⟨S32768x2x1, .f32⟩
  | 7 => ⟨S_, .f32⟩
  | 8 => ⟨S32768x2x1, .f32⟩
  | 9 => ⟨S32768x2x1, .f32⟩
  | 10 => ⟨S_, .f32⟩
  | 11 => ⟨S32768x2x1, .f32⟩
  | 12 => ⟨S32768x2x1, .f32⟩
  | 13 => ⟨S32768x2x1, .f32⟩
  | 14 => ⟨S32768x2x64, .f32⟩
  | 15 => ⟨S32768x2x64, .f32⟩
  | 16 => ⟨S1x1x64, .f32⟩
  | 17 => ⟨S32768x2x64, .f32⟩
  | 18 => ⟨S32768x2x64, .f32⟩
  | 19 => ⟨S32768x128, .f32⟩
  | 20 => ⟨S32768x2x1x64, .f32⟩
  | 21 => ⟨S32768x2x2x64, .f32⟩
  | 22 => ⟨S32768x256, .f32⟩
  | 23 => ⟨S32768x2x1x64, .f32⟩
  | 24 => ⟨S32768x2x2x64, .f32⟩
  | 25 => ⟨S32768x256, .f32⟩
  | 26 => ⟨S32768x3072, .f32⟩
  | 27 => ⟨S32768x3x2x4, .f32⟩
  | 28 => ⟨S32768x2x3x4, .f32⟩
  | 29 => ⟨S32768x2x12, .f32⟩
  | 30 => ⟨S_, .i32⟩
  | 31 => ⟨S_, .f32⟩
  | 32 => ⟨S32768x2x128, .f32⟩
  | 33 => ⟨S32768x256, .f32⟩
  | 34 => ⟨S32768x3072, .bf16⟩
  | 35 => ⟨S32768x256, .f32⟩
  | 36 => ⟨S32768x256, .f32⟩
  | 37 => ⟨S_, .f32⟩
  | 38 => ⟨S32768x256, .f32⟩
  | 39 => ⟨S32768x256, .f32⟩
  | 40 => ⟨S_, .f32⟩
  | 41 => ⟨S32768x256, .f32⟩
  | 42 => ⟨S32768x256, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_cst_15 : Ref sig .tc := ⟨.hbm, 109, rfl⟩
abbrev main_v86 : Ref sig .tc := ⟨.hbm, 110, rfl⟩
abbrev main_v87 : Ref sig .tc := ⟨.hbm, 111, rfl⟩
abbrev main_cst_16 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_cst_18 : Ref sig .tc := ⟨.hbm, 135, rfl⟩
abbrev main_v109 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_c : Ref sig .tc := ⟨.hbm, 158, rfl⟩
abbrev main_call0_v0 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_20 : Ref sig .tc := ⟨.hbm, 165, rfl⟩
abbrev main_v135 : Ref sig .tc := ⟨.hbm, 166, rfl⟩
abbrev main_v136 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩

abbrev nD : Nat := 1
abbrev τ : Topo := Topo.v7x

variable {F : FTy → Type} [FloatOps F]
-- ==== Compress.lean ====
abbrev S32768x128 : Shape := ⟨2, ![32768, 128]⟩
abbrev S2x32x64 : Shape := ⟨3, ![2, 32, 64]⟩
abbrev S2x2048x256 : Shape := ⟨3, ![2, 2048, 256]⟩
abbrev S2x256x64 : Shape := ⟨3, ![2, 256, 64]⟩
abbrev S3x64 : Shape := ⟨2, ![3, 64]⟩
abbrev S1x32x64 : Shape := ⟨3, ![1, 32, 64]⟩
abbrev S32x64 : Shape := ⟨2, ![32, 64]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S4x2048 : Shape := ⟨2, ![4, 2048]⟩
abbrev S2x256x128 : Shape := ⟨3, ![2, 256, 128]⟩
abbrev S1x64 : Shape := ⟨2, ![1, 64]⟩
abbrev S64 : Shape := ⟨1, ![64]⟩
abbrev S128 : Shape := ⟨1, ![128]⟩
abbrev S_ : Shape := ⟨0, ![]⟩
abbrev S1x128 : Shape := ⟨2, ![1, 128]⟩
abbrev S4x512x2048 : Shape := ⟨3, ![4, 512, 2048]⟩
abbrev S1x2048x256 : Shape := ⟨3, ![1, 2048, 256]⟩
abbrev S2048x256 : Shape := ⟨2, ![2048, 256]⟩
abbrev S2x16x64x256 : Shape := ⟨4, ![2, 16, 64, 256]⟩
abbrev S16x2x64x256 : Shape := ⟨4, ![16, 2, 64, 256]⟩
abbrev S1x16x64x256 : Shape := ⟨4, ![1, 16, 64, 256]⟩
abbrev S16x64x256 : Shape := ⟨3, ![16, 64, 256]⟩
abbrev S1 : Shape := ⟨1, ![1]⟩
abbrev S2048x1024 : Shape := ⟨2, ![2048, 1024]⟩
abbrev S4x2x512x128 : Shape := ⟨4, ![4, 2, 512, 128]⟩
abbrev S1x512x2048 : Shape := ⟨3, ![1, 512, 2048]⟩
abbrev S1x2x512x128 : Shape := ⟨4, ![1, 2, 512, 128]⟩
abbrev S512x2048 : Shape := ⟨2, ![512, 2048]⟩
abbrev S1x2048 : Shape := ⟨2, ![1, 2048]⟩
abbrev S2048x512 : Shape := ⟨2, ![2048, 512]⟩
abbrev S512x512 : Shape := ⟨2, ![512, 512]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 104
  | .vmem => 13
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S3x64, .f32⟩
  | .hbm, ⟨6, _⟩ => ⟨S1x32x64, .f32⟩
  | .hbm, ⟨7, _⟩ => ⟨S32x64, .f32⟩
  | .hbm, ⟨8, _⟩ => ⟨S2x16x1x64, .f32⟩
  | .hbm, ⟨9, _⟩ => ⟨S2x16x2x64, .f32⟩
  | .hbm, ⟨10, _⟩ => ⟨S2x2048, .f32⟩
  | .hbm, ⟨11, _⟩ => ⟨S1x32x64, .f32⟩
  | .hbm, ⟨12, _⟩ => ⟨S32x64, .f32⟩
  | .hbm, ⟨13, _⟩ => ⟨S2x16x1x64, .f32⟩
  | .hbm, ⟨14, _⟩ => ⟨S2x16x2x64, .f32⟩
  | .hbm, ⟨15, _⟩ => ⟨S2x2048, .f32⟩
  | .hbm, ⟨16, _⟩ => ⟨S4x2048, .f32⟩
  | .hbm, ⟨17, _⟩ => ⟨S2x256x128, .f32⟩
  | .hbm, ⟨18, _⟩ => ⟨S2x256x128, .bf16⟩
  | .hbm, ⟨19, _⟩ => ⟨S1x64, .f32⟩
  | .hbm, ⟨20, _⟩ => ⟨S64, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S4x512x2048, .f32⟩
  | .hbm, ⟨27, _⟩ => ⟨S4x512x2048, .f32⟩
  | .hbm, ⟨28, _⟩ => ⟨S1x2048x256, .f32⟩
  | .hbm, ⟨29, _⟩ => ⟨S2048x256, .f32⟩
  | .hbm, ⟨30, _⟩ => ⟨S2x16x64x256, .f32⟩
  | .hbm, ⟨31, _⟩ => ⟨S_, .f32⟩
  | .hbm, ⟨32, _⟩ => ⟨S16x2x64x256, .f32⟩
  | .hbm, ⟨33, _⟩ => ⟨S1x16x64x256, .f32⟩
  | .hbm, ⟨34, _⟩ => ⟨S16x64x256, .f32⟩
  | .hbm, ⟨35, _⟩ => ⟨S_, .i32⟩
  | .hbm, ⟨36, _⟩ => ⟨S1, .i32⟩
  | .hbm, ⟨37, _⟩ => ⟨S16x2x64x256, .f32⟩
  | .hbm, ⟨38, _⟩ => ⟨S2048x256, .f32⟩
  | .hbm, ⟨39, _⟩ => ⟨S_, .f32⟩
  | .hbm, ⟨40, _⟩ => ⟨S16x2x64x256, .f32⟩
  | .hbm, ⟨41, _⟩ => ⟨S1x16x64x256, .f32⟩
  | .hbm, ⟨42, _⟩ => ⟨S16x64x256, .f32⟩
  | .hbm, ⟨43, _⟩ => ⟨S_, .i32⟩
  | .hbm, ⟨44, _⟩ => ⟨S1, .i32⟩
  | .hbm, ⟨45, _⟩ => ⟨S16x2x64x256, .f32⟩
  | .hbm, ⟨46, _⟩ => ⟨S2048x256, .f32⟩
  | .hbm, ⟨47, _⟩ => ⟨S_, .f32⟩
  | .hbm, ⟨48, _⟩ => ⟨S16x2x64x256, .f32⟩
  | .hbm, ⟨49, _⟩ => ⟨S1x16x64x256, .f32⟩
  | .hbm, ⟨50, _⟩ => ⟨S16x64x256, .f32⟩
  | .hbm, ⟨51, _⟩ => ⟨S_, .i32⟩
  | .hbm, ⟨52, _⟩ => ⟨S1, .i32⟩
  | .hbm, ⟨53, _⟩ => ⟨S16x2x64x256, .f32⟩
  | .hbm, ⟨54, _⟩ => ⟨S2048x256, .f32⟩
  | .hbm, ⟨55, _⟩ => ⟨S_, .f32⟩
  | .hbm, ⟨56, _⟩ => ⟨S16x2x64x256, .f32⟩
  | .hbm, ⟨57, _⟩ => ⟨S1x16x64x256, .f32⟩
  | .hbm, ⟨58, _⟩ => ⟨S16x64x256, .f32⟩
  | .hbm, ⟨59, _⟩ => ⟨S_, .i32⟩
  | .hbm, ⟨60, _⟩ => ⟨S1, .i32⟩
  | .hbm, ⟨61, _⟩ => ⟨S16x2x64x256, .f32⟩
  | .hbm, ⟨62, _⟩ => ⟨S2048x256, .f32⟩
  | .hbm, ⟨63, _⟩ => ⟨S2048x1024, .f32⟩
  | .hbm, ⟨64, _⟩ => ⟨S2048x1024, .bf16⟩
  | .hbm, ⟨65, _⟩ => ⟨S1x2048x256, .f32⟩
  | .hbm, ⟨66, _⟩ => ⟨S2048x256, .f32⟩
  | .hbm, ⟨67, _⟩ => ⟨S2x16x64x256, .f32⟩
  | .hbm, ⟨68, _⟩ => ⟨S_, .f32⟩
  | .hbm, ⟨69, _⟩ => ⟨S16x2x64x256, .f32⟩
  | .hbm, ⟨70, _⟩ => ⟨S1x16x64x256, .f32⟩
  | .hbm, ⟨71, _⟩ => ⟨S16x64x256, .f32⟩
  | .hbm, ⟨72, _⟩ => ⟨S_, .i32⟩
  | .hbm, ⟨73, _⟩ => ⟨S1, .i32⟩
  | .hbm, ⟨74, _⟩ => ⟨S16x2x64x256, .f32⟩
  | .hbm, ⟨75, _⟩ => ⟨S2048x256, .f32⟩
  | .hbm, ⟨76, _⟩ => ⟨S_, .f32⟩
  | .hbm, ⟨77, _⟩ => ⟨S16x2x64x256, .f32⟩
  | .hbm, ⟨78, _⟩ => ⟨S1x16x64x256, .f32⟩
  | .hbm, ⟨79, _⟩ => ⟨S16x64x256, .f32⟩
  | .hbm, ⟨80, _⟩ => ⟨S_, .i32⟩
  | .hbm, ⟨81, _⟩ => ⟨S1, .i32⟩
  | .hbm, ⟨82, _⟩ => ⟨S16x2x64x256, .f32⟩
  | .hbm, ⟨83, _⟩ => ⟨S2048x256, .f32⟩
  | .hbm, ⟨84, _⟩ => ⟨S_, .f32⟩
  | .hbm, ⟨85, _⟩ => ⟨S16x2x64x256, .f32⟩
  | .hbm, ⟨86, _⟩ => ⟨S1x16x64x256, .f32⟩
  | .hbm, ⟨87, _⟩ => ⟨S16x64x256, .f32⟩
  | .hbm, ⟨88, _⟩ => ⟨S_, .i32⟩
  | .hbm, ⟨89, _⟩ => ⟨S1, .i32⟩
  | .hbm, ⟨90, _⟩ => ⟨S16x2x64x256, .f32⟩
  | .hbm, ⟨91, _⟩ => ⟨S2048x256, .f32⟩
  | .hbm, ⟨92, _⟩ => ⟨S_, .f32⟩
  | .hbm, ⟨93, _⟩ => ⟨S16x2x64x256, .f32⟩
  | .hbm, ⟨94, _⟩ => ⟨S1x16x64x256, .f32⟩
  | .hbm, ⟨95, _⟩ => ⟨S16x64x256, .f32⟩
  | .hbm, ⟨96, _⟩ => ⟨S_, .i32⟩
  | .hbm, ⟨97, _⟩ => ⟨S1, .i32⟩
  | .hbm, ⟨98, _⟩ => ⟨S16x2x64x256, .f32⟩
  | .hbm, ⟨99, _⟩ => ⟨S2048x256, .f32⟩
  | .hbm, ⟨100, _⟩ => ⟨S2048x1024, .f32⟩
  | .hbm, ⟨101, _⟩ => ⟨S2048x1024, .bf16⟩
  | .hbm, ⟨102, _⟩ => ⟨S4x2x512x128, .bf16⟩
  | .hbm, ⟨103, _⟩ => ⟨S4x2x512x128, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S2048x1024, .bf16⟩
  | .local _ .vmem, ⟨5, _⟩ => ⟨S2048x1024, .bf16⟩
  | .local _ .vmem, ⟨6, _⟩ => ⟨S4x2048, .f32⟩
  | .local _ .vmem, ⟨7, _⟩ => ⟨S2x256x128, .bf16⟩
  | .local _ .vmem, ⟨8, _⟩ => ⟨S1x128, .f32⟩
  | .local _ .vmem, ⟨9, _⟩ => ⟨S1x2x512x128, .bf16⟩
  | .local _ .vmem, ⟨10, _⟩ => ⟨S1x2x512x128, .bf16⟩
  | .local _ .vmem, ⟨11, _⟩ => ⟨S1x2x512x128, .bf16⟩
  | .local _ .vmem, ⟨12, _⟩ => ⟨S1x2x512x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79_0 : Ref sig .tc := ⟨.hbm, 102, rfl⟩
abbrev main_v79_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CompressReferenceIdeal.lean ====
abbrev S32768x128 : Shape := ⟨2, ![32768, 128]⟩
abbrev S2x32x64 : Shape := ⟨3, ![2, 32, 64]⟩
abbrev S2x2048x256 : Shape := ⟨3, ![2, 2048, 256]⟩
abbrev S2x256x64 : Shape := ⟨3, ![2, 256, 64]⟩
abbrev S3x64 : Shape := ⟨2, ![3, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S4x8192x2x64 : Shape := ⟨4, ![4, 8192, 2, 64]⟩
abbrev S4x2x8192x64 : Shape := ⟨4, ![4, 2, 8192, 64]⟩
abbrev S4x2x512x16x64 : Shape := ⟨5, ![4, 2, 512, 16, 64]⟩
abbrev S4x2x511x16x64 : Shape := ⟨5, ![4, 2, 511, 16, 64]⟩
abbrev S4x2x1x16x64 : Shape := ⟨5, ![4, 2, 1, 16, 64]⟩
abbrev S4x2x512x32x64 : Shape := ⟨5, ![4, 2, 512, 32, 64]⟩
abbrev S1x1x1x32x64 : Shape := ⟨5, ![1, 1, 1, 32, 64]⟩
abbrev S4x2x512x2048 : Shape := ⟨4, ![4, 2, 512, 2048]⟩
abbrev S4x2x512x256 : Shape := ⟨4, ![4, 2, 512, 256]⟩
abbrev S_ : Shape := ⟨0, ![]⟩
abbrev S4x2x512x64 : Shape := ⟨4, ![4, 2, 512, 64]⟩
abbrev S1x64 : Shape := ⟨2, ![1, 64]⟩
abbrev S64 : Shape := ⟨1, ![64]⟩
abbrev S4x2x512 : Shape := ⟨3, ![4, 2, 512]⟩
abbrev S4x2x512x1 : Shape := ⟨4, ![4, 2, 512, 1]⟩
abbrev S1x1x1x64 : Shape := ⟨4, ![1, 1, 1, 64]⟩
abbrev S4x2x512x128 : Shape := ⟨4, ![4, 2, 512, 128]⟩

abbrev nBuf : Space → Nat
  | .hbm => 100
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S3x64, .f32⟩
  | .hbm, ⟨6, _⟩ => ⟨S1x32x64, .f32⟩
  | .hbm, ⟨7, _⟩ => ⟨S32x64, .f32⟩
  | .hbm, ⟨8, _⟩ => ⟨S1x2048x256, .f32⟩
  | .hbm, ⟨9, _⟩ => ⟨S2048x256, .f32⟩
  | .hbm, ⟨10, _⟩ => ⟨S1x256x64, .f32⟩
  | .hbm, ⟨11, _⟩ => ⟨S256x64, .f32⟩
  | .hbm, ⟨12, _⟩ => ⟨S4x8192x2x64, .f32⟩
  | .hbm, ⟨13, _⟩ => ⟨S4x2x8192x64, .f32⟩
  | .hbm, ⟨14, _⟩ => ⟨S4x2x512x16x64, .f32⟩
  | .hbm, ⟨15, _⟩ => ⟨S4x2x511x16x64, .f32⟩
  | .hbm, ⟨16, _⟩ => ⟨S4x2x1x16x64, .f32⟩
  | .hbm, ⟨17, _⟩ => ⟨S4x2x512x16x64, .f32⟩
  | .hbm, ⟨18, _⟩ => ⟨S4x2x512x32x64, .f32⟩
  | .hbm, ⟨19, _⟩ => ⟨S1x1x1x32x64, .f32⟩
  | .hbm, ⟨20, _⟩ => ⟨S4x2x512x32x64, .f32⟩
  | .hbm, ⟨21, _⟩ => ⟨S4x2x512x32x64, .f32⟩
  | .hbm, ⟨22, _⟩ => ⟨S4x2x512x2048, .f32⟩
  | .hbm, ⟨23, _⟩ => ⟨S4x2x512x256, .f32⟩
  | .hbm, ⟨24, _⟩ => ⟨S4x2x512x256, .f32⟩
  | .hbm, ⟨25, _⟩ => ⟨S4x2x512x256, .f32⟩
  | .hbm, ⟨26, _⟩ => ⟨S_, .f32⟩
  | .hbm, ⟨27, _⟩ => ⟨S4x2x512x256, .f32⟩
  | .hbm, ⟨28, _⟩ => ⟨S4x2x512x256, .f32⟩
  | .hbm, ⟨29, _⟩ => ⟨S4x2x512x256, .f32⟩
  | .hbm, ⟨30, _⟩ => ⟨S_, .f32⟩
  | .hbm, ⟨31, _⟩ => ⟨S4x2x512x256, .f32⟩
  | .hbm, ⟨32, _⟩ => ⟨S4x2x512x256, .f32⟩
  | .hbm, ⟨33, _⟩ => ⟨S4x2x512x256, .f32⟩
  | .hbm, ⟨34, _⟩ => ⟨S_, .f32⟩
  | .hbm, ⟨35, _⟩ => ⟨S4x2x512x256, .f32⟩
  | .hbm, ⟨36, _⟩ => ⟨S4x2x512x256, .f32⟩
  | .hbm, ⟨37, _⟩ => ⟨S_, .f32⟩
  | .hbm, ⟨38, _⟩ => ⟨S4x2x512x256, .f32⟩
  | .hbm, ⟨39, _⟩ => ⟨S4x2x512x256, .f32⟩
  | .hbm, ⟨40, _⟩ => ⟨S4x2x512x256, .f32⟩
  | .hbm, ⟨41, _⟩ => ⟨S4x2x512x64, .f32⟩
  | .hbm, ⟨42, _⟩ => ⟨S1x64, .f32⟩
  | .hbm, ⟨43, _⟩ => ⟨S64, .f32⟩
  | .hbm, ⟨44, _⟩ => ⟨S4x2x512x64, .f32⟩
  | .hbm, ⟨45, _⟩ => ⟨S_, .f32⟩
  | .hbm, ⟨46, _⟩ => ⟨S4x2x512, .f32⟩
  | .hbm, ⟨47, _⟩ => ⟨S4x2x512x1, .f32⟩
  | .hbm, ⟨48, _⟩ => ⟨S_, .f32⟩
  | .hbm, ⟨49, _⟩ => ⟨S4x2x512x1, .f32⟩
  | .hbm, ⟨50, _⟩ => ⟨S4x2x512x1, .f32⟩
  | .hbm, ⟨51, _⟩ => ⟨S_, .f32⟩
  | .hbm, ⟨52, _⟩ => ⟨S4x2x512x1, .f32⟩
  | .hbm, ⟨53, _⟩ => ⟨S4x2x512x1, .f32⟩
  | .hbm, ⟨54, _⟩ => ⟨S4x2x512x1, .f32⟩
  | .hbm, ⟨55, _⟩ => ⟨S4x2x512x64, .f32⟩
  | .hbm, ⟨56, _⟩ => ⟨S4x2x512x64, .f32⟩
  | .hbm, ⟨57, _⟩ => ⟨S1x1x1x64, .f32⟩
  | .hbm, ⟨58, _⟩ => ⟨S4x2x512x64, .f32⟩
  | .hbm, ⟨59, _⟩ => ⟨S4x2x512x64, .f32⟩
  | .hbm, ⟨60, _⟩ => ⟨S1x32x64, .f32⟩
  | .hbm, ⟨61, _⟩ => ⟨S32x64, .f32⟩
  | .hbm, ⟨62, _⟩ => ⟨S1x2048x256, .f32⟩
  | .hbm, ⟨63, _⟩ => ⟨S2048x256, .f32⟩
  | .hbm, ⟨64, _⟩ => ⟨S1x256x64, .f32⟩
  | .hbm, ⟨65, _⟩ => ⟨S256x64, .f32⟩
  | .hbm, ⟨66, _⟩ => ⟨S4x8192x2x64, .f32⟩
  | .hbm, ⟨67, _⟩ => ⟨S4x2x8192x64, .f32⟩
  | .hbm, ⟨68, _⟩ => ⟨S4x2x512x16x64, .f32⟩
  | .hbm, ⟨69, _⟩ => ⟨S4x2x511x16x64, .f32⟩
  | .hbm, ⟨70, _⟩ => ⟨S4x2x1x16x64, .f32⟩
  | .hbm, ⟨71, _⟩ => ⟨S4x2x512x16x64, .f32⟩
  | .hbm, ⟨72, _⟩ => ⟨S4x2x512x32x64, .f32⟩
  | .hbm, ⟨73, _⟩ => ⟨S1x1x1x32x64, .f32⟩
  | .hbm, ⟨74, _⟩ => ⟨S4x2x512x32x64, .f32⟩
  | .hbm, ⟨75, _⟩ => ⟨S4x2x512x32x64, .f32⟩
  | .hbm, ⟨76, _⟩ => ⟨S4x2x512x2048, .f32⟩
  | .hbm, ⟨77, _⟩ => ⟨S4x2x512x256, .f32⟩
  | .hbm, ⟨78, _⟩ => ⟨S4x2x512x256, .f32⟩
  | .hbm, ⟨79, _⟩ => ⟨S4x2x512x256, .f32⟩
  | .hbm, ⟨80, _⟩ => ⟨S_, .f32⟩
  | .hbm, ⟨81, _⟩ => ⟨S4x2x512x256, .f32⟩
  | .hbm, ⟨82, _⟩ => ⟨S4x2x512x256, .f32⟩
  | .hbm, ⟨83, _⟩ => ⟨S4x2x512x256, .f32⟩
  | .hbm, ⟨84, _⟩ => ⟨S_, .f32⟩
  | .hbm, ⟨85, _⟩ => ⟨S4x2x512x256, .f32⟩
  | .hbm, ⟨86, _⟩ => ⟨S4x2x512x256, .f32⟩
  | .hbm, ⟨87, _⟩ => ⟨S4x2x512x256, .f32⟩
  | .hbm, ⟨88, _⟩ => ⟨S_, .f32⟩
  | .hbm, ⟨89, _⟩ => ⟨S4x2x512x256, .f32⟩
  | .hbm, ⟨90, _⟩ => ⟨S4x2x512x256, .f32⟩
  | .hbm, ⟨91, _⟩ => ⟨S_, .f32⟩
  | .hbm, ⟨92, _⟩ => ⟨S4x2x512x256, .f32⟩
  | .hbm, ⟨93, _⟩ => ⟨S4x2x512x256, .f32⟩
  | .hbm, ⟨94, _⟩ => ⟨S4x2x512x256, .f32⟩
  | .hbm, ⟨95, _⟩ => ⟨S4x2x512x64, .f32⟩
  | .hbm, ⟨96, _⟩ => ⟨S4x2x512x128, .f32⟩
  | .hbm, ⟨97, _⟩ => ⟨S4x2x512x128, .bf16⟩
  | .hbm, ⟨98, _⟩ => ⟨S4x2x512x128, .f32⟩
  | .hbm, ⟨99, _⟩ => ⟨S4x2x512x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_v0 : Ref sig .tc := ⟨.hbm, 69, rfl⟩
abbrev main_call1_v1 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Proof.SbMath.lean ====
/- Stick-breaking attention on extended reals: the weight of a key, and the sums a blockwise walk
   over the keys leaves. -/
module

public import Idealize.ShloMosaic.Lib.Pipeline.ValueKit

@[expose] public section

noncomputable section

namespace Cert.SbMath

open Idealize.ShloMosaic

/-- The log of the stick that stays after a key of logit `z`. -/
def stay (z : EReal) : EReal := 0 - (max z 0 + Ideal.log1p (Ideal.exp (0 - max z (-z))))

/-- The log of the part of the stick that a key of logit `z` takes. -/
def take (z : EReal) : EReal := -(max (-z) 0 + Ideal.log1p (Ideal.exp (-max (-z) (- -z))))

theorem cmax (a b : ℝ) : ((max a b : ℝ) : EReal) = max (a : EReal) (b : EReal) :=
  EReal.coe_strictMono.monotone.map_max

theorem log1p_exp (r : ℝ) : Ideal.log1p (Ideal.exp (r : EReal)) = ((Real.log (1 + Real.exp r) : ℝ) : EReal) := by
  show Ideal.log (1 + ((Real.exp r : ℝ) : EReal)) = _
  rw [← EReal.coe_one, ← EReal.coe_add]
  show (if 1 + Real.exp r ≤ 0 then (⊥ : EReal) else _) = _
  rw [if_neg (by have := Real.exp_pos r; linarith)]

theorem log1p_zero : Ideal.log1p (Ideal.exp ⊥) = 0 := by
  show Ideal.log (1 + 0) = 0
  rw [add_zero, ← EReal.coe_one]
  show (if (1 : ℝ) ≤ 0 then (⊥ : EReal) else _) = _
  rw [if_neg (by norm_num), Real.log_one]; rfl

theorem stay_coe (r : ℝ) : stay (r : EReal) = ((-(max r 0 + Real.log (1 + Real.exp (-(max r (-r))))) : ℝ) : EReal) := by
  unfold stay
  have h : (0 : EReal) - max (r : EReal) (-(r : EReal)) = ((-(max r (-r)) : ℝ) : EReal) := by
    rw [← EReal.coe_neg, ← cmax, zero_sub, ← EReal.coe_neg]
  rw [h, log1p_exp, ← EReal.coe_zero, ← cmax, ← EReal.coe_add, EReal.coe_zero, zero_sub, ← EReal.coe_neg]

theorem stay_top : stay ⊤ = ⊥ := by
  unfold stay
  have h : (0 : EReal) - max (⊤ : EReal) (-⊤) = ⊥ := by simp
  rw [h, log1p_zero]; simp

theorem stay_bot : stay ⊥ = 0 := by
  unfold stay
  have h : (0 : EReal) - max (⊥ : EReal) (-⊥) = ⊥ := by simp
  rw [h, log1p_zero]; simp

theorem stay_split (z : EReal) : stay z + (stay z - stay z) = stay z := by
  induction z with
  | bot => rw [stay_bot]; simp
  | top => rw [stay_top]; simp
  | coe r => rw [stay_coe, ← EReal.coe_sub, sub_self, EReal.coe_zero, add_zero]

theorem take_top : take ⊤ = 0 := by
  unfold take
  have h : -max (-(⊤ : EReal)) (- -⊤) = ⊥ := by simp
  rw [h, log1p_zero]; simp

theorem take_bot : take ⊥ = ⊥ := by
  unfold take
  have h : -max (-(⊥ : EReal)) (- -⊥) = ⊥ := by simp
  rw [h, log1p_zero]; simp

theorem take_coe (r : ℝ) : take (r : EReal) = (r : EReal) + stay (r : EReal) := by
  rw [stay_coe]
  unfold take
  have h : -max (-(r : EReal)) (- -(r : EReal)) = ((-(max r (-r)) : ℝ) : EReal) := by
    rw [neg_neg, ← EReal.coe_neg, ← cmax, ← EReal.coe_neg, max_comm]
  rw [h, log1p_exp, ← EReal.coe_neg, ← EReal.coe_zero, ← cmax, ← EReal.coe_add, ← EReal.coe_neg, ← EReal.coe_add]
  congr 1
  rcases le_total r 0 with h0 | h0
  · rw [max_eq_left (by linarith : (0 : ℝ) ≤ -r), max_eq_right h0]; ring
  · rw [max_eq_right (by linarith : -r ≤ (0 : ℝ)), max_eq_left h0]; ring

/-- A key's exponent, from the running sum that still holds the key's own term. -/
theorem exponent (z T : EReal) : take z + ((stay z + T) - stay z) = (z + stay z) + T := by
  induction z with
  | bot => rw [take_bot]; simp
  | top => rw [take_top, stay_top]; simp
  | coe r =>
    rw [take_coe, stay_coe]
    congr 1
    rw [add_comm, add_sub_assoc, ← EReal.coe_sub, sub_self, EReal.coe_zero, add_zero]

/-- The weight of key `j` for query `i`, the logits being `Z`. -/
def wt (Z : ℕ → EReal) (i j : ℕ) : EReal :=
  Ideal.exp ((Z j + stay (Z j)) + ∑ x ∈ Finset.Ico (j + 1) i, stay (Z x))

theorem sum_mask (f : ℕ → EReal) (n b lo hi : ℕ) (h : hi ≤ n) :
    (∑ x : Fin n, if lo ≤ x.val ∧ x.val < hi then f (b + x.val) else 0) = ∑ x ∈ Finset.Ico (b + lo) (b + hi), f x := by
  rw [Fin.sum_univ_eq_sum_range (fun x => if lo ≤ x ∧ x < hi then f (b + x) else 0) n, ← Finset.sum_filter]
  rw [add_comm b lo, add_comm b hi, ← Finset.sum_Ico_add f lo hi b]
  refine Finset.sum_congr ?_ fun _ _ => rfl
  ext x; simp only [Finset.mem_filter, Finset.mem_range, Finset.mem_Ico]; omega

theorem sum_block (f : ℕ → EReal) (b n : ℕ) : (∑ x : Fin n, f (b + x.val)) = ∑ x ∈ Finset.Ico b (b + n), f x := by
  have := sum_mask f n b 0 n le_rfl
  rw [add_zero] at this
  rw [← this]
  exact Finset.sum_congr rfl fun x _ => (if_pos ⟨Nat.zero_le _, x.isLt⟩).symm

/-- The sum of the terms after key `y` of a block of 256, the terms being split in two. -/
theorem after_sum (Z : ℕ → EReal) (b y hi : ℕ) (h : hi ≤ 256) (s : Fin 256 → EReal) (a : Fin 256 → EReal)
    (hs : ∀ x, s x = if x.val < hi then stay (Z (b + x.val)) else 0) (ha : ∀ x, a x = if y < x.val then 1 else 0) :
    (∑ x, s x * a x) + (∑ x, (s x - s x) * a x) = ∑ x ∈ Finset.Ico (b + y + 1) (b + hi), stay (Z x) := by
  rw [add_assoc b y 1, ← sum_mask (fun x => stay (Z x)) 256 b (y + 1) hi h, ← Finset.sum_add_distrib]
  refine Finset.sum_congr rfl fun x _ => ?_
  rw [hs, ha]
  by_cases h1 : y < x.val
  · by_cases h2 : x.val < hi
    · rw [if_pos h1, if_pos h2, mul_one, mul_one, if_pos ⟨by omega, h2⟩, stay_split]
    · rw [if_pos h1, if_neg h2, mul_one, mul_one, if_neg (by omega)]; simp
  · rw [if_neg h1, mul_zero, mul_zero, add_zero, if_neg (by omega)]

/-- The block that holds the query: only the keys before it count. -/
theorem diag_acc (Z V : ℕ → EReal) (b ρ : ℕ) (h : ρ ≤ 256) (s : Fin 256 → EReal) (a : Fin 256 → Fin 256 → EReal)
    (hs : ∀ x, s x = if x.val < ρ then stay (Z (b + x.val)) else 0) (ha : ∀ x y, a x y = if y.val < x.val then 1 else 0) :
    (0 : EReal) + (∑ y : Fin 256, if y.val < ρ then
        Ideal.exp (Z (b + y.val) + stay (Z (b + y.val)) + ((∑ x, s x * a x y) + (∑ x, (s x - s x) * a x y) + 0)) * V (b + y.val) else 0)
      = ∑ x ∈ Finset.Ico b (b + ρ), wt Z (b + ρ) x * V x := by
  have := sum_mask (fun x => wt Z (b + ρ) x * V x) 256 b 0 ρ h
  rw [add_zero] at this
  rw [← this, zero_add]
  refine Finset.sum_congr rfl fun y _ => ?_
  by_cases h1 : y.val < ρ
  · rw [if_pos h1, if_pos ⟨Nat.zero_le _, h1⟩, after_sum Z b y.val ρ h s (fun x => a x y) hs (fun x => ha x y), add_zero]
    rfl
  · rw [if_neg h1, if_neg (by omega)]

theorem diag_run (Z : ℕ → EReal) (b ρ : ℕ) (h : ρ ≤ 256) :
    (0 : EReal) + (∑ y : Fin 256, if y.val < ρ then stay (Z (b + y.val)) else 0) = ∑ x ∈ Finset.Ico b (b + ρ), stay (Z x) := by
  have := sum_mask (fun x => stay (Z x)) 256 b 0 ρ h
  rw [add_zero] at this
  rw [← this, zero_add]
  refine Finset.sum_congr rfl fun y _ => ?_
  by_cases h1 : y.val < ρ
  · rw [if_pos h1, if_pos ⟨Nat.zero_le _, h1⟩]
  · rw [if_neg h1, if_neg (by omega)]

/-- A whole block before the query, added to what the later blocks left. -/
theorem step_acc (Z V : ℕ → EReal) (b i : ℕ) (h : b + 256 ≤ i) (s : Fin 256 → EReal) (a : Fin 256 → Fin 256 → EReal)
    (hs : ∀ x, s x = stay (Z (b + x.val))) (ha : ∀ x y, a x y = if y.val < x.val then 1 else 0) :
    (∑ x ∈ Finset.Ico (b + 256) i, wt Z i x * V x) + (∑ y : Fin 256,
        Ideal.exp (Z (b + y.val) + s y + ((∑ x, s x * a x y) + (∑ x, (s x - s x) * a x y)
          + ∑ x ∈ Finset.Ico (b + 256) i, stay (Z x))) * V (b + y.val))
      = ∑ x ∈ Finset.Ico b i, wt Z i x * V x := by
  rw [← Finset.sum_Ico_consecutive (fun x => wt Z i x * V x) (Nat.le_add_right b 256) h, ← sum_block (fun x => wt Z i x * V x) b 256, add_comm]
  congr 1
  refine Finset.sum_congr rfl fun y _ => ?_
  rw [after_sum Z b y.val 256 le_rfl s (fun x => a x y) (fun x => (hs x).trans (if_pos x.isLt).symm) (fun x => ha x y),
    Finset.sum_Ico_consecutive (fun x => stay (Z x)) (by have := y.isLt; omega) h, hs]
  rfl

theorem step_run (Z : ℕ → EReal) (b i : ℕ) (h : b + 256 ≤ i) :
    (∑ x ∈ Finset.Ico (b + 256) i, stay (Z x)) + (∑ y : Fin 256, stay (Z (b + y.val))) = ∑ x ∈ Finset.Ico b i, stay (Z x) := by
  rw [sum_block (fun x => stay (Z x)) b 256, add_comm, Finset.sum_Ico_consecutive (fun x => stay (Z x)) (Nat.le_add_right b 256) h]

/-- One output entry of a head: row `i` of a batch row of 8192 tokens, `V` the values' column. -/
def entry (Z V : ℕ → EReal) (i : ℕ) : EReal := ∑ x ∈ Finset.Ico 0 i, wt Z i x * V x

/-- The reference's form: every key of the row, masked, with the running sum taken whole. -/
theorem entry_of_row (Z V : ℕ → EReal) (i : ℕ) (hi : i < 8192) :
    (∑ j : Fin 8192, (if j.val < i then Ideal.exp (take (Z j.val) +
        ((0 + ∑ n : Fin 8192, if j.val + n.val < i then stay (Z (j.val + n.val)) else 0)
          - if j.val < i then stay (Z j.val) else 0)) else 0) * V j.val) = entry Z V i := by
  have := sum_mask (fun x => wt Z i x * V x) 8192 0 0 i hi.le
  rw [add_zero, zero_add] at this
  unfold entry
  rw [← this]
  refine Finset.sum_congr rfl fun j _ => ?_
  by_cases h1 : j.val < i
  · rw [if_pos h1, if_pos h1, if_pos ⟨Nat.zero_le _, h1⟩, zero_add, zero_add]
    have h2 : (∑ n : Fin 8192, if j.val + n.val < i then stay (Z (j.val + n.val)) else 0) = ∑ x ∈ Finset.Ico j.val i, stay (Z x) := by
      have h3 := sum_mask (fun x => stay (Z x)) 8192 j.val 0 (i - j.val) (by omega)
      rw [add_zero, Nat.add_sub_cancel' h1.le] at h3
      rw [← h3]
      refine Finset.sum_congr rfl fun n _ => ?_
      by_cases h4 : j.val + n.val < i
      · rw [if_pos h4, if_pos ⟨Nat.zero_le _, by omega⟩]
      · rw [if_neg h4, if_neg (by omega)]
    rw [h2, Finset.sum_eq_sum_Ico_succ_bot h1, exponent]
    rfl
  · rw [if_neg h1, if_neg (by omega), zero_mul]

end Cert.SbMath

end
-- ==== Proof.SbTile.lean ====
/- One score tile of the stick-breaking kernel: what a diagonal tile and a whole tile leave, entry by entry. -/
module

public import proofs.«01_k».proof.Proof.Gen.KernelIdeal.Value
public import proofs.«01_k».proof.Proof.SbMath
public import Idealize.ShloMosaic.Lib.WordCmp
public import Idealize.ShloMosaic.Lib.Pipeline.ValueKit
public import Idealize.ShloMosaic.Lib.Pipeline.ReadBack
public import Idealize.ShloMosaic.Lib.Claim

@[expose] public section

set_option maxRecDepth 16384

noncomputable section

namespace Cert.SbVal

open Cert.KernelIdeal Cert.KernelIdeal.Gen Idealize.ShloMosaic Idealize.ShloMosaic.TcCoe Idealize.ShloMosaic.Tactic Idealize.SL.Sem Cert.SbMath

/-- The score of tile row `ρ` against key `j`: the tile stacks two heads of 64 lanes, 256 query rows each. -/
def Zr (X : ℕ → ℕ → EReal) (A C D ρ j : ℕ) : EReal :=
  ∑ k : Fin 64, X (A + ρ % 256) (C + 64 * (ρ / 256) + k.val) * X (D + j) (256 + C + 64 * (ρ / 256) + k.val)

/-- The value lane `l` of key `j`. -/
def Vl (X : ℕ → ℕ → EReal) (C D l j : ℕ) : EReal := X (D + j) (512 + C + l)

theorem lane_lt (l : Fin 128) : IntOp.cmpi .slt (BitVec.ofNat 32 l.val) 64#32 = if l.val < 64 then 1#1 else 0#1 := by
  revert l; decide +kernel

theorem stacked (v : FVec Ideal S256x128 .bf16) (r : Fin 512) (l : Fin 128) :
    k0_pay10 v (ix2 r l) = if r.val < 256 then (if l.val < 64 then v (ix2 ⟨r.val % 256, by omega⟩ l) else 0)
      else (if l.val < 64 then 0 else v (ix2 ⟨r.val % 256, by omega⟩ l)) := by
  pointwise [k0_pay10]
  rw [lane_lt]
  by_cases h : r.val < 256
  · have e : r.val % 256 = r.val := by omega
    by_cases hl : l.val < 64 <;> simp [h, hl, Scalar.select, e]
  · have e : r.val % 256 = r.val - 256 := by omega
    by_cases hl : l.val < 64 <;> simp [h, hl, Scalar.select, e]

variable (X : ℕ → ℕ → EReal) (A C D B : ℕ) (q K V : FVec Ideal S256x128 .bf16)
  (hq : ∀ (r : Fin 256) (l : Fin 128), q (ix2 r l) = X (A + r.val) (C + l.val))
  (hK : ∀ (r : Fin 256) (l : Fin 128), K (ix2 r l) = X (D + (B + r.val)) (256 + C + l.val))
  (hV : ∀ (r : Fin 256) (l : Fin 128), V (ix2 r l) = X (D + (B + r.val)) (512 + C + l.val))

include hq hK in
theorem head_sum (ρ : Fin 512) (y : Fin 256) :
    (∑ x : Fin 128, k0_pay10 q (ix2 ρ x) * K (ix2 y x)) = Zr X A C D ρ.val (B + y.val) := by
  rw [Fin.sum_univ_two_halves 64 64 rfl]
  unfold Zr
  have hρ := ρ.isLt
  by_cases h : ρ.val < 256
  · have e : ρ.val / 256 = 0 := by omega
    rw [add_comm, Finset.sum_eq_zero, zero_add]
    · refine Finset.sum_congr rfl fun k _ => ?_
      rw [stacked, if_pos h, if_pos k.isLt, hq, hK, e]
      congr 2 <;> simp
    · intro k _
      rw [stacked, if_pos h, if_neg (by simp), zero_mul]
  · have e : ρ.val / 256 = 1 := by omega
    rw [Finset.sum_eq_zero, zero_add]
    · refine Finset.sum_congr rfl fun k _ => ?_
      rw [stacked, if_neg h, if_neg (by simp), hq, hK, e]
      congr 2 <;> simp [add_assoc]
    · intro k _
      rw [stacked, if_neg h, if_pos k.isLt, zero_mul]

include hq hK in
theorem pay15_at (ρ : Fin 512) (y : Fin 256) : k0_pay15 (F := Ideal) q K (ix2 ρ y) = Zr X A C D ρ.val (B + y.val) := by
  rw [← head_sum X A C D B q K hq hK]
  pointwise [k0_pay15]

include hq hK in
theorem pay4_at (ρ : Fin 512) (y : Fin 256) : k0_pay4 (F := Ideal) (k0_pay10 q) K (ix2 ρ y) = Zr X A C D ρ.val (B + y.val) := by
  rw [← head_sum X A C D B q K hq hK]
  pointwise [k0_pay4]

include hq hK in
theorem pay5_at (ρ : Fin 512) (y : Fin 256) : k0_pay5 (F := Ideal) (k0_pay10 q) K (ix2 ρ y) = stay (Zr X A C D ρ.val (B + y.val)) := by
  pointwise [k0_pay5, pay4_at X A C D B q K hq hK]
  rfl

include hq hK in
theorem pay17_at (ρ : Fin 512) (y : Fin 256) :
    k0_pay17 (F := Ideal) (k0_pay15 q K) (k0_pay16 q K) (ix2 ρ y) = stay (Zr X A C D ρ.val (B + y.val)) := by
  pointwise [k0_pay17, k0_pay16, pay15_at X A C D B q K hq hK]
  rfl

theorem after_at (x y : Fin 256) : k0_pay12 (F := Ideal) (ix2 x y) = if y.val < x.val then (1 : EReal) else 0 := by
  pointwise [k0_pay12]
  rw [WordCmp.cmpi_sgt_ofNat (by omega) (by omega)]
  by_cases h : y.val < x.val <;> simp [h, Scalar.select]

theorem within (r : Fin 512) : IntOp.andi (BitVec.ofNat 32 r.val) 255#32 = BitVec.ofNat 32 (r.val % 256) := by
  revert r; decide +kernel

theorem before_at (ρ : Fin 512) (y : Fin 256) : k0_pay11 (ix2 ρ y) = BitVec.ofBool (decide (y.val < ρ.val % 256)) := by
  pointwise [k0_pay11]
  rw [within, WordCmp.cmpi_slt_ofNat (by omega) (by omega)]

include hq hK in
theorem pay18_at (ρ : Fin 512) (y : Fin 256) :
    k0_pay18 (F := Ideal) k0_pay11 (k0_pay15 q K) (k0_pay16 q K) (ix2 ρ y) = if y.val < ρ.val % 256 then stay (Zr X A C D ρ.val (B + y.val)) else 0 := by
  pointwise [k0_pay18, pay17_at X A C D B q K hq hK, before_at]

/-- A diagonal tile's running log-survival, from nothing. -/
theorem diag_run_at (hq : ∀ (r : Fin 256) (l : Fin 128), q (ix2 r l) = X (A + r.val) (C + l.val))
    (hK : ∀ (r : Fin 256) (l : Fin 128), K (ix2 r l) = X (D + (B + r.val)) (256 + C + l.val)) (ρ : Fin 512) :
    k0_pay20 (F := Ideal) k0_pay11 (k0_pay15 q K) (k0_pay16 q K) (k0_pay13 (F := Ideal)) (ix2 ρ 0)
      = ∑ x ∈ Finset.Ico B (B + ρ.val % 256), stay (Zr X A C D ρ.val x) := by
  rw [← diag_run (Zr X A C D ρ.val) B (ρ.val % 256) (by omega)]
  pointwise [k0_pay20, k0_pay13, pay18_at X A C D B q K hq hK]

/-- A diagonal tile's accumulated output, from nothing. -/
theorem diag_acc_at (hq : ∀ (r : Fin 256) (l : Fin 128), q (ix2 r l) = X (A + r.val) (C + l.val))
    (hK : ∀ (r : Fin 256) (l : Fin 128), K (ix2 r l) = X (D + (B + r.val)) (256 + C + l.val))
    (hV : ∀ (r : Fin 256) (l : Fin 128), V (ix2 r l) = X (D + (B + r.val)) (512 + C + l.val)) (ρ : Fin 512) (l : Fin 128) :
    k0_pay19 (F := Ideal) k0_pay11 k0_pay12 V (k0_pay15 q K) (k0_pay16 q K) (k0_pay13 (F := Ideal)) (k0_pay14 (F := Ideal)) (ix2 ρ l)
      = ∑ x ∈ Finset.Ico B (B + ρ.val % 256), wt (Zr X A C D ρ.val) (B + ρ.val % 256) x * Vl X C D l.val x := by
  rw [← diag_acc (Zr X A C D ρ.val) (Vl X C D l.val) B (ρ.val % 256) (by omega)
    (fun x => k0_pay18 (F := Ideal) k0_pay11 (k0_pay15 q K) (k0_pay16 q K) (ix2 ρ x)) (fun x y => k0_pay12 (F := Ideal) (ix2 x y))
    (fun x => pay18_at X A C D B q K hq hK ρ x) (fun x y => after_at x y)]
  pointwise [k0_pay19, k0_pay13, k0_pay14, pay17_at X A C D B q K hq hK, pay15_at X A C D B q K hq hK, before_at, hV]
  refine Finset.sum_congr rfl fun x _ => ?_
  rw [ite_mul, zero_mul]
  rfl

/-- A whole tile's step of the running log-survival. -/
theorem step_run_at (hq : ∀ (r : Fin 256) (l : Fin 128), q (ix2 r l) = X (A + r.val) (C + l.val))
    (hK : ∀ (r : Fin 256) (l : Fin 128), K (ix2 r l) = X (D + (B + r.val)) (256 + C + l.val)) (ρ : Fin 512) (i : ℕ) (hi : B + 256 ≤ i)
    (R : FVec Ideal S512x1 .f32) (hR : R (ix2 ρ 0) = ∑ x ∈ Finset.Ico (B + 256) i, stay (Zr X A C D ρ.val x)) :
    k0_pay1 (F := Ideal) (k0_pay5 (k0_pay10 q) K) R (ix2 ρ 0) = ∑ x ∈ Finset.Ico B i, stay (Zr X A C D ρ.val x) := by
  rw [← step_run (Zr X A C D ρ.val) B i hi]
  pointwise [k0_pay1, pay5_at X A C D B q K hq hK, hR]

/-- A whole tile's step of the accumulated output. -/
theorem step_acc_at (hq : ∀ (r : Fin 256) (l : Fin 128), q (ix2 r l) = X (A + r.val) (C + l.val))
    (hK : ∀ (r : Fin 256) (l : Fin 128), K (ix2 r l) = X (D + (B + r.val)) (256 + C + l.val))
    (hV : ∀ (r : Fin 256) (l : Fin 128), V (ix2 r l) = X (D + (B + r.val)) (512 + C + l.val)) (ρ : Fin 512) (l : Fin 128) (i : ℕ) (hi : B + 256 ≤ i)
    (R : FVec Ideal S512x1 .f32) (hR : R (ix2 ρ 0) = ∑ x ∈ Finset.Ico (B + 256) i, stay (Zr X A C D ρ.val x))
    (O : FVec Ideal S512x128 .f32) (hO : O (ix2 ρ l) = ∑ x ∈ Finset.Ico (B + 256) i, wt (Zr X A C D ρ.val) i x * Vl X C D l.val x) :
    k0_pay6 (F := Ideal) (k0_pay10 q) k0_pay12 K V R O (ix2 ρ l) = ∑ x ∈ Finset.Ico B i, wt (Zr X A C D ρ.val) i x * Vl X C D l.val x := by
  rw [← step_acc (Zr X A C D ρ.val) (Vl X C D l.val) B i hi
    (fun x => k0_pay5 (F := Ideal) (k0_pay10 q) K (ix2 ρ x)) (fun x y => k0_pay12 (F := Ideal) (ix2 x y))
    (fun x => pay5_at X A C D B q K hq hK ρ x) (fun x y => after_at x y)]
  pointwise [k0_pay6, pay4_at X A C D B q K hq hK, hV, hR, hO]
  rfl

end Cert.SbVal
-- ==== Proof.SbLoop.lean ====
/- The key loop of the stick-breaking kernel. -/
module

public import proofs.«01_k».proof.Proof.Gen.KernelIdeal.Value
public import proofs.«01_k».proof.Proof.SbTile
public import Idealize.ShloMosaic.Lib.VecWindow
public import Idealize.ShloMosaic.Lib.Pipeline.ValueKit
public import Idealize.ShloMosaic.Lib.Pipeline.ReadBack
public import Idealize.ShloMosaic.Lib.Claim

@[expose] public section

set_option maxRecDepth 16384

noncomputable section

namespace Cert.SbVal

open Cert.KernelIdeal Cert.KernelIdeal.Gen Idealize.ShloMosaic Idealize.ShloMosaic.TcCoe Idealize.ShloMosaic.Tactic Idealize.SL.Sem Cert.SbMath

theorem trips_word : ∀ n : Fin 32, Scf.trips 0#32 (Scalar.addi 0#32 (Scalar.muli (Scalar.divsi (Scalar.subi (BitVec.ofNat 32 n.val) 0#32) 1#32) 1#32)) 1#32 = n.val := by
  decide +kernel

theorem trips_eq (i : grid0.Coords) : (k0_t1_loop i).trips = (i 2).val := trips_word (i 2)

theorem rest_word : ∀ n : Fin 32, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

theorem rest_eq (i : grid0.Coords) : (k0_t2_loop i).trips = 0 := rest_word (i 2)

theorem off1_word : ∀ n : Fin 32, (Scalar.indexCast (Scalar.muli (BitVec.ofNat 32 n.val) 256#32) : Index).toNat = 256 * n.val := by
  decide +kernel

theorem off1_eq (i : grid0.Coords) : k0_off1 i = ![256 * (i 2).val, 0] := by
  unfold k0_off1
  dsimp only
  rw [off1_word (i 2)]

theorem off2_word : ∀ n k : Fin 32, k.val < n.val →
    (Scalar.indexCast (Scalar.muli (Scalar.subi (Scalar.subi (BitVec.ofNat 32 n.val) 1#32) (Scf.iv 0#32 1#32 k.val)) 256#32) : Index).toNat
      = 256 * (n.val - 1 - k.val) := by
  decide +kernel

theorem off2_eq (i : grid0.Coords) (k : Fin (k0_t1_loop i).trips) : k0_off2 i k = ![256 * ((i 2).val - 1 - k.val), 0] := by
  have hk : k.val < (i 2).val := lt_of_lt_of_eq k.isLt (trips_eq i)
  have hi : (i 2).val < 32 := (i 2).isLt
  have h := off2_word (i 2) ⟨k.val, by omega⟩ hk
  unfold k0_off2
  dsimp only
  exact congrArg (fun a => ![a, 0]) h

section trips

variable (𝒱 : Variants) (c : Dev nD) (bd : Option 𝒱.V) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .bf16) (harg6 : arg6.IsWhole) (arg7 : Memref sig .tc .vmem S512x1 .f32) (harg7 : arg7.IsWhole) (arg8 : Memref sig .tc .vmem S512x128 .f32) (harg8 : arg8.IsWhole) (arg2 : BitVec 32) (v7 : FVec Ideal S512x128 .bf16) (v19 : FVec Ideal S256x256 .bf16)

theorem trip_lists (X4 : BufTy.Contents (Elt Ideal) arg4.view.ty) (X5 : BufTy.Contents (Elt Ideal) arg5.view.ty) (k : Fin (k0_t1_loop i).trips) (f7 : BufTy.Contents (Elt Ideal) arg7.view.ty) (f8 : BufTy.Contents (Elt Ideal) arg8.view.ty) :
    tripL_k0_t1 (F := Ideal) 𝒱 c bd i arg3 harg3 arg4 harg4 arg5 harg5 arg6 harg6 arg7 harg7 arg8 harg8 arg2 v7 v19 X4 X5 k f7 f8
      = ([⟨Rect.unit ![0, 0] ![512, 1] inb_S512x1_S512x1_0_0,
          k0_pay1 (k0_pay5 v7 (View.readAt (Elt Ideal) arg4.view (Rect.unit (s := S8192x128) (k0_off2 i k) S256x128.size (k0_off2_inb i k)).toLoadRect X4))
            (arg7.view.read (Elt Ideal) f7)⟩],
        [⟨Rect.unit ![0, 0] ![512, 128] inb_S512x128_S512x128_0_0,
          k0_pay6 v7 v19 (View.readAt (Elt Ideal) arg4.view (Rect.unit (s := S8192x128) (k0_off2 i k) S256x128.size (k0_off2_inb i k)).toLoadRect X4)
            (View.readAt (Elt Ideal) arg5.view (Rect.unit (s := S8192x128) (k0_off2 i k) S256x128.size (k0_off2_inb i k)).toLoadRect X5)
            (arg7.view.read (Elt Ideal) f7)
            (arg8.view.read (Elt Ideal) f8)⟩]) := by
  unfold tripL_k0_t1 trip_k0_t1
  dsimp only
  sl_unfold_run_names
  have e7 := View.readAt_full (Val := Elt Ideal) arg7.view f7 (off := ![0, 0]) (inb := inb_S512x1_S512x1_0_0)
  have e8 := View.readAt_full (Val := Elt Ideal) arg8.view f8 (off := ![0, 0]) (inb := inb_S512x128_S512x128_0_0)
  rw [← e7, ← e8]

theorem tile_read (v : View sig .tc .vmem S8192x128 .bf16) (f : v.ty.Contents (Elt Ideal)) (X : ℕ → ℕ → EReal) (D E B : ℕ)
    (h : ∀ p : S8192x128.Idx, v.read (Elt Ideal) f p = X (D + (p 0).val) (E + (p 1).val))
    (off : Fin 2 → ℕ) (inb : ∀ a, off a + S256x128.size a ≤ S8192x128.size a) (ho : off = ![B, 0]) (r : Fin 256) (l : Fin 128) :
    View.readAt (Elt Ideal) v (Rect.unit (s := S8192x128) off S256x128.size inb).toLoadRect f (ix2 r l) = X (D + (B + r.val)) (E + l.val) := by
  subst ho
  refine (h _).trans ?_
  congr 2
  · show B + 1 * r.val = _
    omega
  · show 0 + 1 * l.val = _
    omega

/-- After `n` key tiles: the running log-survival and the output over the keys from tile `q − n` up. -/
theorem loop_at (X : ℕ → ℕ → EReal) (A C D : ℕ) (q : FVec Ideal S256x128 .bf16)
    (hq : ∀ (r : Fin 256) (l : Fin 128), q (ix2 r l) = X (A + r.val) (C + l.val))
    (X4 : BufTy.Contents (Elt Ideal) arg4.view.ty) (X5 : BufTy.Contents (Elt Ideal) arg5.view.ty)
    (h4 : ∀ p : S8192x128.Idx, arg4.view.read (Elt Ideal) X4 p = X (D + (p 0).val) (256 + C + (p 1).val))
    (h5 : ∀ p : S8192x128.Idx, arg5.view.read (Elt Ideal) X5 p = X (D + (p 0).val) (512 + C + (p 1).val))
    (G7 : BufTy.Contents (Elt Ideal) arg7.view.ty) (G8 : BufTy.Contents (Elt Ideal) arg8.view.ty)
    (h7 : ∀ ρ : Fin 512, arg7.view.read (Elt Ideal) G7 (ix2 ρ 0)
      = ∑ x ∈ Finset.Ico (256 * (i 2).val) (256 * (i 2).val + ρ.val % 256), stay (Zr X A C D ρ.val x))
    (h8 : ∀ (ρ : Fin 512) (l : Fin 128), arg8.view.read (Elt Ideal) G8 (ix2 ρ l)
      = ∑ x ∈ Finset.Ico (256 * (i 2).val) (256 * (i 2).val + ρ.val % 256),
          wt (Zr X A C D ρ.val) (256 * (i 2).val + ρ.val % 256) x * Vl X C D l.val x)
    (n : ℕ) (hn : n ≤ (i 2).val) :
    (∀ ρ : Fin 512, arg7.view.read (Elt Ideal) (arg7.view.writes (Elt Ideal) G7
        (pb_k0_t1 (F := Ideal) 𝒱 c bd i arg3 harg3 arg4 harg4 arg5 harg5 arg6 harg6 arg7 harg7 arg8 harg8 arg2 (k0_pay10 q) k0_pay12 X4 X5 G7 G8 n).1) (ix2 ρ 0)
      = ∑ x ∈ Finset.Ico (256 * ((i 2).val - n)) (256 * (i 2).val + ρ.val % 256), stay (Zr X A C D ρ.val x))
    ∧ (∀ (ρ : Fin 512) (l : Fin 128), arg8.view.read (Elt Ideal) (arg8.view.writes (Elt Ideal) G8
        (pb_k0_t1 (F := Ideal) 𝒱 c bd i arg3 harg3 arg4 harg4 arg5 harg5 arg6 harg6 arg7 harg7 arg8 harg8 arg2 (k0_pay10 q) k0_pay12 X4 X5 G7 G8 n).2) (ix2 ρ l)
      = ∑ x ∈ Finset.Ico (256 * ((i 2).val - n)) (256 * (i 2).val + ρ.val % 256),
          wt (Zr X A C D ρ.val) (256 * (i 2).val + ρ.val % 256) x * Vl X C D l.val x) := by
  induction n with
  | zero => exact ⟨h7, h8⟩
  | succ n ih =>
    obtain ⟨r7, r8⟩ := ih (by omega)
    have hk : n < (k0_t1_loop i).trips := lt_of_lt_of_eq (by omega : n < (i 2).val) (trips_eq i).symm
    have step := pb_k0_t1_succ (F := Ideal) 𝒱 c bd i arg3 harg3 arg4 harg4 arg5 harg5 arg6 harg6 arg7 harg7 arg8 harg8 arg2 (k0_pay10 q) k0_pay12 X4 X5 G7 G8 ⟨n, hk⟩
    rw [trip_lists] at step
    have e1 : 256 * ((i 2).val - n) = 256 * ((i 2).val - 1 - n) + 256 := by omega
    have e2 : 256 * ((i 2).val - (n + 1)) = 256 * ((i 2).val - 1 - n) := by omega
    rw [e1] at r7 r8
    rw [e2]
    have step' : pb_k0_t1 (F := Ideal) 𝒱 c bd i arg3 harg3 arg4 harg4 arg5 harg5 arg6 harg6 arg7 harg7 arg8 harg8 arg2 (k0_pay10 q) k0_pay12 X4 X5 G7 G8 (n + 1) = _ := step
    rw [step']
    have ho := off2_eq i ⟨n, hk⟩
    have t4 := tile_read arg4.view X4 X D (256 + C) _ h4 _ (k0_off2_inb i ⟨n, hk⟩) ho
    have t5 := tile_read arg5.view X5 X D (512 + C) _ h5 _ (k0_off2_inb i ⟨n, hk⟩) ho
    constructor
    · intro ρ
      dsimp only
      rw [List.cons_append, List.nil_append]
      refine (congrFun (View.read_writes_full arg7.view G7 inb_S512x1_S512x1_0_0 _ _) (ix2 ρ 0)).trans ?_
      exact step_run_at X A C D _ q _ hq t4 ρ _ (by omega) _ (r7 ρ)
    · intro ρ l
      dsimp only
      rw [List.cons_append, List.nil_append]
      refine (congrFun (View.read_writes_full arg8.view G8 inb_S512x128_S512x128_0_0 _ _) (ix2 ρ l)).trans ?_
      exact step_acc_at X A C D _ q _ _ hq t4 t5 ρ l _ (by omega) _ (r7 ρ) _ (r8 ρ l)

end trips
end Cert.SbVal
-- ==== Proof.SbRef.lean ====
/- The stick-breaking reference, entry by entry. -/
module

public import proofs.«01_k».proof.Proof.Gen.ReferenceIdeal.Read
public import proofs.«01_k».proof.Proof.SbMath
public import Idealize.ShloMosaic.Lib.Pipeline.ValueKit
public import Idealize.ShloMosaic.Lib.Claim
public import Idealize.ShloMosaic.Lib.WordCmp

@[expose] public noncomputable section

set_option maxRecDepth 16384

namespace Cert.SbRef

open Cert.ReferenceIdeal Cert.ReferenceIdeal.Gen Cert.ReferenceIdeal.Read Idealize.ShloMosaic Cert.SbMath

/-- The projected operands, by row and column number. -/
def X (x0 : (⟨S32768x3072, .bf16⟩ : BufTy).Contents (Elt Ideal)) (R C : ℕ) : EReal :=
  if h : R < 32768 ∧ C < 3072 then x0 (ix2 ⟨R, h.1⟩ ⟨C, h.2⟩) else 0

/-- The score of query `i` against key `j`, in batch `b` and head `h`. -/
def zz (x0 : (⟨S32768x3072, .bf16⟩ : BufTy).Contents (Elt Ideal)) (b h i j : ℕ) : EReal :=
  ∑ k : Fin 64, X x0 (8192 * b + i) (64 * h + k.val) * X x0 (8192 * b + j) (256 + 64 * h + k.val)

/-- The value of key `j`, coordinate `d`. -/
def vv (x0 : (⟨S32768x3072, .bf16⟩ : BufTy).Contents (Elt Ideal)) (b h d j : ℕ) : EReal :=
  X x0 (8192 * b + j) (512 + 64 * h + d)

theorem X_at (x0 : (⟨S32768x3072, .bf16⟩ : BufTy).Contents (Elt Ideal)) (p : S32768x3072.Idx) (R C : ℕ)
    (hR : (p 0).val = R) (hC : (p 1).val = C) : x0 p = X x0 R C := by
  have h0 : (p 0).val < 32768 := (p 0).isLt
  have h1 : (p 1).val < 3072 := (p 1).isLt
  subst hR hC
  unfold X
  rw [dif_pos ⟨h0, h1⟩]
  congr 1
  exact eq_ix2 p

variable (x0 : (⟨S32768x3072, .bf16⟩ : BufTy).Contents (Elt Ideal))

theorem q_at (p : S4x4x8192x64.Idx) :
    val_main_v3 (F := Ideal) x0 p = X x0 (8192 * (p 0).val + (p 2).val) (64 * (p 1).val + (p 3).val) := by
  have h0 : (p 0).val < 4 := (p 0).isLt
  have h1 : (p 1).val < 4 := (p 1).isLt
  have h2 : (p 2).val < 8192 := (p 2).isLt
  have h3 : (p 3).val < 64 := (p 3).isLt
  rw [val_main_v3_apply, val_main_v2_apply, val_main_v1_apply, val_main_v0_apply]
  refine X_at x0 _ _ _ ?_ ?_
  · show ((((p 0).val * 8192 + (p 2).val) * 4 + (p 1).val) * 64 + (p 3).val) / 256 = _
    omega
  · show ((((p 0).val * 8192 + (p 2).val) * 4 + (p 1).val) * 64 + (p 3).val) % 256 = _
    omega

theorem k_at (p : S4x4x8192x64.Idx) :
    val_main_v6 (F := Ideal) x0 p = X x0 (8192 * (p 0).val + (p 2).val) (256 + 64 * (p 1).val + (p 3).val) := by
  have h0 : (p 0).val < 4 := (p 0).isLt
  have h1 : (p 1).val < 4 := (p 1).isLt
  have h2 : (p 2).val < 8192 := (p 2).isLt
  have h3 : (p 3).val < 64 := (p 3).isLt
  rw [val_main_v6_apply, val_main_v5_apply, val_main_v4_apply, val_main_v0_apply]
  refine X_at x0 _ _ _ ?_ ?_
  · show ((((p 0).val * 8192 + (p 2).val) * 4 + (p 1).val) * 64 + (p 3).val) / 256 = _
    omega
  · show 256 + ((((p 0).val * 8192 + (p 2).val) * 4 + (p 1).val) * 64 + (p 3).val) % 256 = _
    omega

theorem v_at (p : S4x4x8192x64.Idx) :
    val_main_v9 (F := Ideal) x0 p = X x0 (8192 * (p 0).val + (p 2).val) (512 + 64 * (p 1).val + (p 3).val) := by
  have h0 : (p 0).val < 4 := (p 0).isLt
  have h1 : (p 1).val < 4 := (p 1).isLt
  have h2 : (p 2).val < 8192 := (p 2).isLt
  have h3 : (p 3).val < 64 := (p 3).isLt
  rw [val_main_v9_apply, val_main_v8_apply, val_main_v7_apply, val_main_v0_apply]
  refine X_at x0 _ _ _ ?_ ?_
  · show ((((p 0).val * 8192 + (p 2).val) * 4 + (p 1).val) * 64 + (p 3).val) / 256 = _
    omega
  · show 512 + ((((p 0).val * 8192 + (p 2).val) * 4 + (p 1).val) * 64 + (p 3).val) % 256 = _
    omega

theorem z_at (p : S4x4x8192x8192.Idx) :
    val_main_v10 (F := Ideal) x0 p = zz x0 (p 0).val (p 1).val (p 2).val (p 3).val := by
  rw [val_main_v10_apply]
  unfold zz
  refine Finset.sum_congr rfl fun k _ => ?_
  rw [q_at, k_at]

theorem before_at (p : S8192x8192.Idx) :
    val_main_v17 (F := Ideal) p = BitVec.ofBool (decide ((p 1).val < (p 0).val)) := by
  have h0 : (p 0).val < 8192 := (p 0).isLt
  have h1 : (p 1).val < 8192 := (p 1).isLt
  rw [val_main_v17_apply, val_main_v15_apply, val_main_v12_apply, val_main_v11_apply, val_main_v16_apply, val_main_v14_apply,
    val_main_v13_apply]
  show IntOp.cmpi .slt (BitVec.ofNat 32 (p 1).val) (BitVec.ofNat 32 (p 0).val) = _
  exact WordCmp.cmpi_slt_ofNat (by omega) (by omega)

theorem zero_at : FloatOps.ofBits (F := Ideal) .f32 0x00000000#32 = (0 : EReal) := by
  show Ideal.ofBits FTy.f32 0x00000000#32 = 0
  simp [Ideal.ofBits, Ideal.ieee]

theorem une_self (a : EReal) : FloatOps.cmpf (F := Ideal) (φ := .f32) .une a a = 0#1 := by
  show Ideal.cmp .une a a = 0#1
  simp [Ideal.cmp]

theorem select_off {α : Type} (a b : α) : Scalar.select 0#1 a b = b := rfl

theorem take_at (p : S4x4x8192x8192.Idx) :
    val_main_v23 (F := Ideal) x0 p = take (val_main_v10 (F := Ideal) x0 p) := by
  rw [val_main_v23_apply, val_main_call3_v1_apply, val_main_call3_call0_v4_apply, une_self, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v2_apply, val_main_call3_call0_v0_apply,
    val_main_call3_call0_cst_apply, val_main_call3_v0_apply, zero_at, select_off]
  generalize val_main_v10 (F := Ideal) x0 p = z
  show -(max (-z) 0 + Ideal.log1p (Ideal.exp (-max (-z - 0) (-(-z - 0))))) = take z
  rw [sub_zero]; rfl

theorem stay_at (p : S4x4x8192x8192.Idx) :
    val_main_v19 (F := Ideal) x0 p = stay (val_main_v10 (F := Ideal) x0 p) := by
  rw [val_main_v19_apply, val_main_call0_v1_apply, val_main_call0_call0_v4_apply, une_self, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    val_main_call0_call0_cst_apply, val_main_call0_v0_apply, val_main_v18_apply, zero_at, select_off]
  generalize val_main_v10 (F := Ideal) x0 p = z
  show -(max (- -z) 0 + Ideal.log1p (Ideal.exp (-max (- -z - 0) (-(- -z - 0))))) = stay z
  rw [sub_zero, neg_neg]
  unfold stay
  rw [zero_sub, zero_sub]

theorem masked_at (p : S4x4x8192x8192.Idx) :
    val_main_v20 (F := Ideal) x0 p
      = if (p 3).val < (p 2).val then stay (zz x0 (p 0).val (p 1).val (p 2).val (p 3).val) else 0 := by
  rw [val_main_v20_apply, stay_at, z_at, val_main_call1_v1_apply, before_at, val_main_call1_v2_apply, val_main_call1_v0_apply,
    val_main_cst_apply, zero_at]
  exact WordCmp.select_ofBool _ _ _ |>.trans (by simp)

theorem fold_add (n : ℕ) (v : EReal) (g : Fin n → EReal) :
    (List.finRange n).foldl (fun r k => r + g k) v = v + ∑ k, g k := by
  rw [Fin.sum_univ_def]
  generalize List.finRange n = l
  induction l generalizing v with
  | nil => simp
  | cons a l ih => simp [ih, add_assoc]

/-- The positions of a window along the last of four axes. -/
def along (n : ℕ) : (⟨4, ![1, 1, 1, n]⟩ : Shape).Idx ≃ Fin n where
  toFun p := p 3
  invFun k := ix4 0 0 0 k
  left_inv p := by
    have h0 : (p 0).val < 1 := (p 0).isLt
    have h1 : (p 1).val < 1 := (p 1).isLt
    have h2 : (p 2).val < 1 := (p 2).isLt
    funext a
    match a with
    | ⟨0, _⟩ => exact Fin.ext (show 0 = (p 0).val by omega)
    | ⟨1, _⟩ => exact Fin.ext (show 0 = (p 1).val by omega)
    | ⟨2, _⟩ => exact Fin.ext (show 0 = (p 2).val by omega)
    | ⟨3, _⟩ => rfl
  right_inv k := rfl

theorem window_at (x : S4x4x8192x8192.Idx → EReal) (v : S_.Idx → EReal) (h : S4x4x8192x8192.ReduceWindows ![1, 1, 1, 8192] ![1, 1, 1, 1] ![0, 0, 0, 0] ![0, 0, 0, 8191] S4x4x8192x8192)
    (hu : 0 < S_.numel) (f : ℕ → EReal) (p : S4x4x8192x8192.Idx) (hv : ∀ i, v i = 0)
    (hf : ∀ k : Fin 8192, x (ix4 (p 0) (p 1) (p 2) k) = f k.val) :
    Host.reduceWindow (fun a b => a + b) ![1, 1, 1, 8192] ![1, 1, 1, 1] ![0, 0, 0, 0] ![0, 0, 0, 8191] x v h hu p
      = 0 + ∑ n : Fin 8192, if (p 3).val + n.val < 8192 then f ((p 3).val + n.val) else 0 := by
  unfold Host.reduceWindow
  simp only [hv]
  rw [fold_add]
  congr 1
  rw [← Equiv.sum_comp ((⟨4, ![1, 1, 1, 8192]⟩ : Shape).rowMajor), ← Equiv.sum_comp (along 8192).symm]
  refine Finset.sum_congr rfl fun n _ => ?_
  have h3 : (p 3).val < 8192 := (p 3).isLt
  simp only [Equiv.symm_apply_apply]
  by_cases c : (p 3).val + n.val < 8192
  · rw [if_pos c, ← hf ⟨_, c⟩, dif_pos]
    · congr 1
      funext a
      match a with
      | ⟨0, _⟩ => exact Fin.ext (show (p 0).val * 1 + 0 - 0 = (p 0).val by omega)
      | ⟨1, _⟩ => exact Fin.ext (show (p 1).val * 1 + 0 - 0 = (p 1).val by omega)
      | ⟨2, _⟩ => exact Fin.ext (show (p 2).val * 1 + 0 - 0 = (p 2).val by omega)
      | ⟨3, _⟩ => exact Fin.ext (show (p 3).val * 1 + n.val - 0 = (p 3).val + n.val by omega)
    · intro a
      match a with
      | ⟨0, _⟩ => exact ⟨Nat.zero_le _, (show (p 0).val * 1 + 0 - 0 < 4 from by have : (p 0).val < 4 := (p 0).isLt; omega)⟩
      | ⟨1, _⟩ => exact ⟨Nat.zero_le _, (show (p 1).val * 1 + 0 - 0 < 4 from by have : (p 1).val < 4 := (p 1).isLt; omega)⟩
      | ⟨2, _⟩ => exact ⟨Nat.zero_le _, (show (p 2).val * 1 + 0 - 0 < 8192 from by have : (p 2).val < 8192 := (p 2).isLt; omega)⟩
      | ⟨3, _⟩ => exact ⟨Nat.zero_le _, (show (p 3).val * 1 + n.val - 0 < 8192 from by omega)⟩
  · rw [if_neg c, dif_neg]
    intro hh
    have := (hh 3).2
    have : (p 3).val * 1 + n.val - 0 < 8192 := this
    omega

theorem run_at (p : S4x4x8192x8192.Idx) :
    val_main_v21 (F := Ideal) x0 p
      = 0 + ∑ n : Fin 8192, if (p 3).val + n.val < (p 2).val then stay (zz x0 (p 0).val (p 1).val (p 2).val ((p 3).val + n.val)) else 0 := by
  have h2 : (p 2).val < 8192 := (p 2).isLt
  unfold val_main_v21
  generalize hx : val_main_v20 (F := Ideal) x0 = x
  generalize hw : val_main_call2_v0 (F := Ideal) = w
  rw [Host.reduceWindowAdd, Ideal.hostReduceWindowAdd_def, Ideal.hostReduceWindowAdd]
  refine (window_at x _ _ _
    (fun j => if j < (p 2).val then stay (zz x0 (p 0).val (p 1).val (p 2).val j) else 0) p ?_ ?_).trans ?_
  · intro i
    show w _ = 0
    rw [← hw, val_main_call2_v0_apply, val_main_call2_cst_apply, zero_at]
  · intro k
    rw [← hx]
    exact masked_at x0 _
  · congr 1
    refine Finset.sum_congr rfl fun n _ => ?_
    by_cases c : (p 3).val + n.val < (p 2).val
    · rw [if_pos (by omega)]
    · rw [if_neg c, ite_self]

theorem weight_at (p : S4x4x8192x8192.Idx) (b h i j : ℕ) (e0 : (p 0).val = b) (e1 : (p 1).val = h) (e2 : (p 2).val = i) (e3 : (p 3).val = j) :
    val_main_v26 (F := Ideal) x0 p
      = if j < i then Ideal.exp (take (zz x0 b h i j)
          + ((0 + ∑ n : Fin 8192, if j + n.val < i then stay (zz x0 b h i (j + n.val)) else 0) - if j < i then stay (zz x0 b h i j) else 0))
        else 0 := by
  subst e0 e1 e2 e3
  rw [val_main_v26_apply, val_main_call4_v1_apply, before_at, val_main_call4_v2_apply, val_main_call4_v0_apply, val_main_cst_0_apply,
    zero_at, val_main_v25_apply, val_main_v24_apply, val_main_v22_apply, take_at, z_at, run_at, masked_at]
  exact WordCmp.select_ofBool _ _ _ |>.trans (by simp)

/-- The reference at a place: the masked running product over the keys before the query. -/
theorem point (p : S32768x256.Idx) :
    val_main_v30 (F := Ideal) x0 p
      = entry (zz x0 ((p 0).val / 8192) ((p 1).val / 64) ((p 0).val % 8192)) (vv x0 ((p 0).val / 8192) ((p 1).val / 64) ((p 1).val % 64))
          ((p 0).val % 8192) := by
  have h0 : (p 0).val < 32768 := (p 0).isLt
  have h1 : (p 1).val < 256 := (p 1).isLt
  rw [← entry_of_row _ _ _ (Nat.mod_lt _ (by norm_num))]
  rw [val_main_v30_apply]
  show val_main_v29 (F := Ideal) x0 p = _
  rw [val_main_v29_apply, val_main_v28_apply, val_main_v27_apply]
  refine Finset.sum_congr rfl fun k _ => ?_
  rw [v_at]
  congr 1
  · refine weight_at x0 _ _ _ _ _ ?_ ?_ ?_ rfl
    · show ((p 0).val * 256 + (p 1).val) / 2097152 = _
      omega
    · show ((p 0).val * 256 + (p 1).val) / 64 % 4 = _
      omega
    · show ((p 0).val * 256 + (p 1).val) / 256 % 8192 = _
      omega
  · unfold vv
    congr 1
    · show 8192 * (((p 0).val * 256 + (p 1).val) / 2097152) + k.val = _
      omega
    · show 512 + 64 * (((p 0).val * 256 + (p 1).val) / 64 % 4) + ((p 0).val * 256 + (p 1).val) % 64 = _
      omega

end Cert.SbRef
-- ==== Proof.SbValue.lean ====
/- The stick-breaking kernel's output, entry by entry. -/
module

public import proofs.«01_k».proof.Proof.Gen.KernelIdeal.Value
public import proofs.«01_k».proof.Proof.SbLoop
public import proofs.«01_k».proof.Proof.SbRef
public import Idealize.ShloMosaic.Lib.VecWindow
public import Idealize.ShloMosaic.Lib.Pipeline.ValueKit
public import Idealize.ShloMosaic.Lib.Pipeline.ReadBack
public import Idealize.ShloMosaic.Lib.Claim

@[expose] public section

set_option maxRecDepth 16384

noncomputable section

namespace Cert.SbVal

open Cert.KernelIdeal Cert.KernelIdeal.Gen Idealize.ShloMosaic Idealize.ShloMosaic.TcCoe Idealize.ShloMosaic.Tactic Idealize.SL.Sem Cert.SbMath

variable (m : (ℓ : Loc nD τ sig) → Buf (Elt Ideal) ℓ)

theorem idx : ∀ t : Fin cfg0.N, win0_0.index t = ![t.val / 64 * 32 + t.val % 32, t.val / 32 % 2] ∧ win0_1.index t = ![t.val / 64, 2 + t.val / 32 % 2]
    ∧ win0_2.index t = ![t.val / 64, 4 + t.val / 32 % 2] ∧ win0_3.index t = ![t.val / 64 * 32 + t.val % 32, t.val / 32 % 2]
    ∧ ((grid0.coords t) 2).val = t.val % 32 :=
  (by decide +kernel : ∀ t : Fin grid0.N, _)

theorem t_lt (t : Fin cfg0.N) : t.val < 256 := lt_of_lt_of_eq t.isLt (by decide +kernel)

theorem q_blk (c : Dev nD) (t : Fin cfg0.N) (r : Fin 256) (l : Fin 128) :
    iblk m c 0 t (ix2 r l) = Cert.SbRef.X (m ((c : Thread nD τ).loc main_arg0)) (8192 * (t.val / 64) + 256 * (t.val % 32) + r.val) (128 * (t.val / 32 % 2) + l.val) := by
  have ht := t_lt t
  refine Eq.trans ?_ (Cert.SbRef.X_at (m ((c : Thread nD τ).loc main_arg0))
    (ix2 ⟨8192 * (t.val / 64) + 256 * (t.val % 32) + r.val, by omega⟩ ⟨128 * (t.val / 32 % 2) + l.val, by omega⟩) _ _ rfl rfl)
  blk_simp [iblk, idx t]
  blk_ext <;> simp [idx t] <;> omega

theorem k_blk (c : Dev nD) (t : Fin cfg0.N) (r : Fin 8192) (l : Fin 128) :
    iblk m c 1 t (ix2 r l) = Cert.SbRef.X (m ((c : Thread nD τ).loc main_arg0)) (8192 * (t.val / 64) + r.val) (256 + 128 * (t.val / 32 % 2) + l.val) := by
  have ht := t_lt t
  refine Eq.trans ?_ (Cert.SbRef.X_at (m ((c : Thread nD τ).loc main_arg0))
    (ix2 ⟨8192 * (t.val / 64) + r.val, by omega⟩ ⟨256 + 128 * (t.val / 32 % 2) + l.val, by omega⟩) _ _ rfl rfl)
  blk_simp [iblk, idx t]
  blk_ext <;> simp [idx t] <;> omega

theorem v_blk (c : Dev nD) (t : Fin cfg0.N) (r : Fin 8192) (l : Fin 128) :
    iblk m c 2 t (ix2 r l) = Cert.SbRef.X (m ((c : Thread nD τ).loc main_arg0)) (8192 * (t.val / 64) + r.val) (512 + 128 * (t.val / 32 % 2) + l.val) := by
  have ht := t_lt t
  refine Eq.trans ?_ (Cert.SbRef.X_at (m ((c : Thread nD τ).loc main_arg0))
    (ix2 ⟨8192 * (t.val / 64) + r.val, by omega⟩ ⟨512 + 128 * (t.val / 32 % 2) + l.val, by omega⟩) _ _ rfl rfl)
  blk_simp [iblk, idx t]
  blk_ext <;> simp [idx t] <;> omega

theorem zr_eq (x0 : (⟨Cert.ReferenceIdeal.S32768x3072, .bf16⟩ : BufTy).Contents (Elt Ideal)) (b u v ρ h i : ℕ)
    (hi : i = 256 * v + ρ % 256) (hh : h = 2 * u + ρ / 256) :
    Zr (Cert.SbRef.X x0) (8192 * b + 256 * v) (128 * u) (8192 * b) ρ = Cert.SbRef.zz x0 b h i := by
  subst hi hh
  funext j
  unfold Zr Cert.SbRef.zz
  refine Finset.sum_congr rfl fun k _ => ?_
  congr 2 <;> omega

theorem vl_eq (x0 : (⟨Cert.ReferenceIdeal.S32768x3072, .bf16⟩ : BufTy).Contents (Elt Ideal)) (b u l h d : ℕ)
    (hd : 128 * u + l = 64 * h + d) :
    Vl (Cert.SbRef.X x0) (128 * u) (8192 * b) l = Cert.SbRef.vv x0 b h d := by
  funext j
  unfold Vl Cert.SbRef.vv
  congr 1
  omega

theorem diag_read (x : S8192x128.Idx → EReal) (X : ℕ → ℕ → EReal) (D E B : ℕ)
    (h : ∀ (r : Fin 8192) (l : Fin 128), x (ix2 r l) = X (D + r.val) (E + l.val))
    (off : Fin 2 → ℕ) (inb : ∀ a, off a + S256x128.size a ≤ S8192x128.size a) (ho : off = ![B, 0]) (r : Fin 256) (l : Fin 128) :
    @View.ld (Elt Ideal) S8192x128 .bf16 x (Rect.unit (s := S8192x128) off S256x128.size inb) (ix2 r l) = X (D + (B + r.val)) (E + l.val) := by
  subst ho
  have hB : B + 256 ≤ 8192 := inb 0
  refine Eq.trans ?_ ((h ⟨B + r.val, by omega⟩ l).trans rfl)
  refine congrArg x (funext fun a => Fin.ext ?_)
  match a with
  | ⟨0, _⟩ => show B + 1 * r.val = B + r.val; omega
  | ⟨1, _⟩ => show 0 + 1 * l.val = l.val; omega

theorem cover_read (v : View sig .tc .vmem S512x128 .f32) (L P : List (View.Piece (Elt Ideal) S512x128 .f32))
    (inb : ∀ a, (![0, 0] : Fin 2 → ℕ) a + (![512, 128] : Fin 2 → ℕ) a ≤ S512x128.size a) :
    v.readCov (L ++ P) (Rect.unit (s := S512x128) ![0, 0] ![512, 128] inb).toLoadRect
      = v.read (Elt Ideal) (v.writes (Elt Ideal) (v.writes (Elt Ideal) v.junk P) L) := by
  rw [← View.writes_append]
  exact View.readAt_full v _ inb

theorem lane_pick (l : Fin 128) (a b : EReal) : Scalar.select (IntOp.cmpi .slt (BitVec.ofNat 32 l.val) 64#32) a b = if l.val < 64 then a else b := by
  rw [lane_lt]
  by_cases h : l.val < 64 <;> simp [h, Scalar.select]

theorem point (c : Dev nD) (t : Fin cfg0.N) (r : Fin 256) (l : Fin 128) :
    outsAt0 m c t (ix2 r l)
      = entry (Cert.SbRef.zz (m ((c : Thread nD τ).loc main_arg0)) (t.val / 64) (2 * (t.val / 32 % 2) + l.val / 64) (256 * (t.val % 32) + r.val))
          (Cert.SbRef.vv (m ((c : Thread nD τ).loc main_arg0)) (t.val / 64) (2 * (t.val / 32 % 2) + l.val / 64) (l.val % 64)) (256 * (t.val % 32) + r.val) := by
  have ht := t_lt t
  have hc : ((grid0.coords t) 2).val = t.val % 32 := (idx t).2.2.2.2
  unfold outsAt0
  frame_out
  rw [rest_word (grid0.coords t 2), trips_word (grid0.coords t 2), pb_k0_t2.eq_1]
  rw [List.nil_append]
  pointwise [k0_pay3]
  rw [cover_read, lane_pick]
  have hq := q_blk m c t
  have hk := k_blk m c t
  have hv := v_blk m c t
  have ho : k0_off1 (grid0.coords t) = ![256 * (t.val % 32), 0] := (off1_eq (grid0.coords t)).trans (by rw [hc])
  have dk := diag_read _ _ _ _ _ hk _ (k0_off1_inb (grid0.coords t)) ho
  have dv := diag_read _ _ _ _ _ hv _ (k0_off1_inb (grid0.coords t)) ho
  have key := fun G7 G8 h7 h8 => loop_at Variants.none c none (grid0.coords t) (ms0_0 t) (hs0_0 t) (ms0_1 t) (hs0_1 t) (ms0_2 t) (hs0_2 t) (ms0_3 t) (hs0_3 t)
    scM0_0 (Memref.isWhole_whole _) scM0_1 (Memref.isWhole_whole _) (BitVec.ofNat 32 ((grid0.coords t) 2).val)
    (Cert.SbRef.X (m ((c : Thread nD τ).loc main_arg0))) (8192 * (t.val / 64) + 256 * (t.val % 32)) (128 * (t.val / 32 % 2)) (8192 * (t.val / 64))
    (iblk m c 0 t) hq ((hs0_1 t).unread (iblk m c 1 t)) ((hs0_2 t).unread (iblk m c 2 t))
    (fun p => by rw [(hs0_1 t).read_unread]; exact (congrArg (iblk m c 1 t) (eq_ix2 p)).trans (hk (p 0) (p 1)))
    (fun p => by rw [(hs0_2 t).read_unread]; exact (congrArg (iblk m c 2 t) (eq_ix2 p)).trans (hv (p 0) (p 1)))
    G7 G8 h7 h8 ((grid0.coords t) 2).val le_rfl
  by_cases hl : l.val < 64
  · rw [if_pos hl]
    refine ((key _ _ ?_ ?_).2 _ l).trans ?_
    · intro ρ
      refine (congrFun (View.read_writes_full scM0_0.view scM0_0.view.junk inb_S512x1_S512x1_0_0 _ _) (ix2 ρ 0)).trans ?_
      rw [hc]
      exact diag_run_at _ _ _ _ _ (iblk m c 0 t) _ hq dk ρ
    · intro ρ l
      refine (congrFun (View.read_writes_full scM0_1.view scM0_1.view.junk inb_S512x128_S512x128_0_0 _ _) (ix2 ρ l)).trans ?_
      rw [hc]
      exact diag_acc_at _ _ _ _ _ (iblk m c 0 t) _ _ hq dk dv ρ l
    · rw [zr_eq _ (t.val / 64) (t.val / 32 % 2) (t.val % 32) _ (2 * (t.val / 32 % 2) + l.val / 64) (256 * (t.val % 32) + r.val) (by dsimp only; omega) (by dsimp only; omega),
        vl_eq _ (t.val / 64) (t.val / 32 % 2) l.val (2 * (t.val / 32 % 2) + l.val / 64) (l.val % 64) (by omega), hc]
      unfold entry
      dsimp only
      rw [show r.val % 256 = r.val by omega, Nat.sub_self, Nat.mul_zero]
  · rw [if_neg hl]
    refine ((key _ _ ?_ ?_).2 _ l).trans ?_
    · intro ρ
      refine (congrFun (View.read_writes_full scM0_0.view scM0_0.view.junk inb_S512x1_S512x1_0_0 _ _) (ix2 ρ 0)).trans ?_
      rw [hc]
      exact diag_run_at _ _ _ _ _ (iblk m c 0 t) _ hq dk ρ
    · intro ρ l
      refine (congrFun (View.read_writes_full scM0_1.view scM0_1.view.junk inb_S512x128_S512x128_0_0 _ _) (ix2 ρ l)).trans ?_
      rw [hc]
      exact diag_acc_at _ _ _ _ _ (iblk m c 0 t) _ _ hq dk dv ρ l
    · rw [zr_eq _ (t.val / 64) (t.val / 32 % 2) (t.val % 32) _ (2 * (t.val / 32 % 2) + l.val / 64) (256 * (t.val % 32) + r.val) (by dsimp only; omega) (by dsimp only; omega),
        vl_eq _ (t.val / 64) (t.val / 32 % 2) l.val (2 * (t.val / 32 % 2) + l.val / 64) (l.val % 64) (by omega), hc]
      unfold entry
      dsimp only
      rw [show (256 + r.val) % 256 = r.val by omega, Nat.sub_self, Nat.mul_zero]

theorem final (c : Dev nD) :
    (dats m 0 c).arrAt 3 cfg0.N = Cert.ReferenceIdeal.Read.val_main_v30 (F := Ideal) (m ((c : Thread nD τ).loc main_arg0)) := by
  refine (dats m 0 c).arrAt_eq_of_covers 3 _ (by decide +kernel) fun t hf y => ?_
  have ht := t_lt t
  blk_simp
  rw [after0_3]
  idx_vars y
  refine (point m c t _ _).trans ?_
  rw [Cert.SbRef.point]
  have e0 : (((View.whole main_v0).slice (win0_3.rect t)).emb (ix2 y0 y1) 0).val = 256 * (t.val / 64 * 32 + t.val % 32) + y0.val := by
    simp [idx t, Pipeline.WinKind.off]
    omega
  have e1 : (((View.whole main_v0).slice (win0_3.rect t)).emb (ix2 y0 y1) 1).val = 128 * (t.val / 32 % 2) + y1.val := by
    simp [idx t, Pipeline.WinKind.off]
    omega
  rw [e0, e1]
  congr 2 <;> omega

end Cert.SbVal
-- ==== Proof.FfnValue.lean ====
/- The value of the feed-forward call: the result array after the kernel's run is the reference's
   term of the arguments, read index by index over the extended reals. -/
module

public import proofs.«01_k».proof.Proof.Gen.FfnIdeal.Value
public import proofs.«01_k».proof.Proof.Gen.FfnReferenceIdeal.Run
public import Idealize.ShloMosaic.Lib.Pipeline.ValueKit
public import Idealize.ShloMosaic.Lib.Claim

@[expose] public section

set_option maxRecDepth 16384

noncomputable section

namespace Cert.FfnRef

open Cert.FfnReferenceIdeal Cert.FfnReferenceIdeal.Gen Idealize.ShloMosaic

/-- The normalised rows of the reference. -/
abbrev rms (x0 : FVec Ideal S32768x1024 .f32) (x1 : FVec Ideal S1024 .f32) : FVec Ideal S32768x1024 .f32 :=
  mulf (mulf x0 (broadcastInDim S32768x1024 ![0, 1] bcast_S32768x1_S32768x1024_0_1 (Host.rsqrt (addf (Host.divf (broadcastInDim S32768x1 ![0] bcast_S32768_S32768x1_0 (Host.reduceAdd (mulf x0 x0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 x1))

/-- The first projection: gate and up side by side. -/
abbrev proj (n : FVec Ideal S32768x1024 .f32) (x2 : FVec Ideal S1024x5632 .f32) : FVec Ideal S32768x5632 .f32 :=
  Host.dotGeneral dot_S32768x1024_S1024x5632_S32768x5632_1_0_0_1_n_n none n x2

/-- What the activation leaves of the projection. -/
abbrev act (p : FVec Ideal S32768x5632 .f32) : FVec Ideal S32768x2816 .f32 :=
  mulf (mulf (extractStridedSlice S32768x2816 ![0, 0] p slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] p slices_S32768x5632_S32768x2816_0_0)))))) (extractStridedSlice S32768x2816 ![0, 2816] p slices_S32768x5632_S32768x2816_0_2816)

/-- The whole reference. -/
abbrev out (x0 : FVec Ideal S32768x1024 .f32) (x1 : FVec Ideal S1024 .f32) (x2 : FVec Ideal S1024x5632 .f32)
    (x3 : FVec Ideal S2816x1024 .f32) : FVec Ideal S32768x1024 .f32 :=
  addf x0 (Host.dotGeneral dot_S32768x2816_S2816x1024_S32768x1024_1_0_0_1_n_n none (act (proj (rms x0 x1) x2)) x3)

end Cert.FfnRef

namespace Cert.FfnVal

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem final (c : Dev nD) : (dats m 0 c).arrAt 4 cfg0.N = Cert.FfnRef.out (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, k0_pay2, k0_pay3, k0_pay4, k0_pay5, k0_pay6, Cert.FfnRef.out, Cert.FfnRef.act, Cert.FfnRef.proj, Cert.FfnRef.rms]
  rw [Fin.sum_univ_two_halves 1408 1408 rfl, ← add_assoc]
  simp only [Ideal.logistic]
  blk_point [iblk, V, idx t]

end Cert.FfnVal
end
-- ==== Proof.MergeValue.lean ====
/- The value of the merging call: the result array after the kernel's run is the reference's
   term of the arguments, read index by index over the extended reals. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Claim

@[expose] public section

set_option maxRecDepth 16384

noncomputable section

namespace Cert.MergeRef

open Cert.MergeReferenceIdeal Cert.MergeReferenceIdeal.Gen Idealize.ShloMosaic

/-- The normalised rows of the reference. -/
abbrev rms (x0 : FVec Ideal S32768x1024 .f32) (x1 : FVec Ideal S1024 .f32) : FVec Ideal S32768x1024 .f32 :=
  mulf (mulf x0 (broadcastInDim S32768x1024 ![0, 1] bcast_S32768x1_S32768x1024_0_1 (Host.rsqrt (addf (Host.divf (broadcastInDim S32768x1 ![0] bcast_S32768_S32768x1_0 (Host.reduceAdd (mulf x0 x0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 x1))

/-- The three gates of every row, a branch to each value of the middle coordinate. -/
abbrev gates (n : FVec Ideal S32768x1024 .f32) (x5 : FVec Ideal S1024x5912 .f32) : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (shapeCast S32768x3x1024 (extractStridedSlice S32768x3072 ![0, 2840] (Host.dotGeneral dot_S32768x1024_S1024x5912_S32768x5912_1_0_0_1_n_n none n x5) slices_S32768x5912_S32768x3072_0_2840) shapeCasts_S32768x3072_S32768x3x1024))))

/-- The gated sum of the three branches. -/
abbrev mix (g : FVec Ideal S32768x3x1024 .f32) (x2 x3 : FVec Ideal S32768x256 .bf16) (x4 : FVec Ideal S32768x512 .bf16)
    (x6 : FVec Ideal S1024x1024 .f32) : FVec Ideal S32768x1024 .f32 :=
  addf (addf (mulf (shapeCast S32768x1024 (extractStridedSlice S32768x1x1024 ![0, 0, 0] g slices_S32768x3x1024_S32768x1x1024_0_0_0) shapeCasts_S32768x1x1024_S32768x1024) (Host.dotGeneral dot_S32768x256_S256x1024_S32768x1024_1_0_0_1_n_n none (extf .f32 x2 bitsLt_bf16_f32) (extractStridedSlice S256x1024 ![0, 0] x6 slices_S1024x1024_S256x1024_0_0))) (mulf (shapeCast S32768x1024 (extractStridedSlice S32768x1x1024 ![0, 1, 0] g slices_S32768x3x1024_S32768x1x1024_0_1_0) shapeCasts_S32768x1x1024_S32768x1024) (Host.dotGeneral dot_S32768x256_S256x1024_S32768x1024_1_0_0_1_n_n none (extf .f32 x3 bitsLt_bf16_f32) (extractStridedSlice S256x1024 ![256, 0] x6 slices_S1024x1024_S256x1024_256_0)))) (mulf (shapeCast S32768x1024 (extractStridedSlice S32768x1x1024 ![0, 2, 0] g slices_S32768x3x1024_S32768x1x1024_0_2_0) shapeCasts_S32768x1x1024_S32768x1024) (Host.dotGeneral dot_S32768x512_S512x1024_S32768x1024_1_0_0_1_n_n none (extf .f32 x4 bitsLt_bf16_f32) (extractStridedSlice S512x1024 ![512, 0] x6 slices_S1024x1024_S512x1024_512_0)))

/-- The whole reference. -/
abbrev out (x0 : FVec Ideal S32768x1024 .f32) (x1 : FVec Ideal S1024 .f32) (x2 x3 : FVec Ideal S32768x256 .bf16)
    (x4 : FVec Ideal S32768x512 .bf16) (x5 : FVec Ideal S1024x5912 .f32) (x6 x7 : FVec Ideal S1024x1024 .f32) :
    FVec Ideal S32768x1024 .f32 :=
  addf x0 (Host.dotGeneral dot_S32768x1024_S1024x1024_S32768x1024_1_0_0_1_n_n none (mix (gates (rms x0 x1) x5) x2 x3 x4 x6) x7)

end Cert.MergeRef

namespace Cert.MergeVal

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

theorem final (c : Dev nD) : (dats m 0 c).arrAt 8 cfg0.N = Cert.MergeRef.out (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) := by
  refine (dats m 0 c).arrAt_eq_of_covers 8 _ (by decide +kernel) fun t hf y => ?_
  blk_simp
  rw [after0_8]; frame_out
  pointwise [k0_pay1, k0_pay2, k0_pay3, Cert.MergeRef.out, Cert.MergeRef.mix, Cert.MergeRef.gates, Cert.MergeRef.rms]
  simp only [Ideal.logistic]
  blk_point [iblk, V, idx t]

end Cert.MergeVal
end
-- ==== Proof.InprojHost.lean ====
/- The operands the host lines of the input projection prepare, read index by index: the selected columns of
   the weight, the compressed branch's columns beside the padded gate columns, and the row of gains. -/
module

public import proofs.«01_k».proof.Proof.Gen.InprojIdeal.Value
public import Idealize.ShloMosaic.Lib.Pipeline.ValueKit
public import Idealize.ShloMosaic.Lib.Claim

@[expose] public section

set_option maxRecDepth 16384

noncomputable section

namespace Cert.InprojVal

open Cert.InprojIdeal Cert.InprojIdeal.Gen Idealize.ShloMosaic Idealize.ShloMosaic.TcCoe Idealize.SL.Sem
open Idealize.ShloMosaic.Pipeline (Dat)

/-- Two heads' columns, each beside its copy. -/
def dup (w : FVec Ideal S1024x128 .f32) : FVec Ideal S1024x256 .f32 :=
  shapeCast S1024x256 (broadcastInDim S1024x2x2x64 ![0, 1, 2, 3] bcast_S1024x2x1x64_S1024x2x2x64_0_1_2_3 (shapeCast S1024x2x1x64 w shapeCasts_S1024x128_S1024x2x1x64)) shapeCasts_S1024x2x2x64_S1024x256

/-- The columns of the weight behind the packed queries, keys and values. -/
def WQ (w : FVec Ideal S1024x5912 .f32) : FVec Ideal S1024x3072 .bf16 :=
  truncf .bf16 (concatenate S1024x3072 1 [⟨S1024x2048, (extractStridedSlice S1024x2048 ![0, 0] w slices_S1024x5912_S1024x2048_0_0 : (⟨S1024x2048, .f32⟩ : BufTy).Contents (Elt Ideal))⟩,
    ⟨S1024x256, (dup (extractStridedSlice S1024x128 ![0, 2304] w slices_S1024x5912_S1024x128_0_2304) : (⟨S1024x256, .f32⟩ : BufTy).Contents (Elt Ideal))⟩,
    ⟨S1024x256, (dup (extractStridedSlice S1024x128 ![0, 2432] w slices_S1024x5912_S1024x128_0_2432) : (⟨S1024x256, .f32⟩ : BufTy).Contents (Elt Ideal))⟩,
    ⟨S1024x256, (dup (extractStridedSlice S1024x128 ![0, 2560] w slices_S1024x5912_S1024x128_0_2560) : (⟨S1024x256, .f32⟩ : BufTy).Contents (Elt Ideal))⟩,
    ⟨S1024x256, (dup (extractStridedSlice S1024x128 ![0, 2688] w slices_S1024x5912_S1024x128_0_2688) : (⟨S1024x256, .f32⟩ : BufTy).Contents (Elt Ideal))⟩]
    concatenates_S1024x2048_S1024x256_S1024x256_S1024x256_S1024x256_S1024x3072_d1 : (⟨S1024x3072, .f32⟩ : BufTy).Contents (Elt Ideal)) bitsLt_bf16_f32

/-- The gate columns, by branch, group and head. -/
def gcols (w : FVec Ideal S1024x5912 .f32) : FVec Ideal S1024x3x2x4 .f32 :=
  shapeCast S1024x3x2x4 (extractStridedSlice S1024x24 ![0, 2816] w slices_S1024x5912_S1024x24_0_2816) shapeCasts_S1024x24_S1024x3x2x4

/-- A group's gate columns, padded to 128 lanes. -/
def pad0 (w : FVec Ideal S1024x5912 .f32) : FVec Ideal S1024x128 .f32 :=
  pad S1024x128 ![0, 0] ![0, 116] ![0, 0] (shapeCast S1024x12 (shapeCast S1024x3x4 (extractStridedSlice S1024x3x1x4 ![0, 0, 0, 0] (gcols w) slices_S1024x3x2x4_S1024x3x1x4_0_0_0_0) shapeCasts_S1024x3x1x4_S1024x3x4) shapeCasts_S1024x3x4_S1024x12) (sitofp (F := Ideal) .f32 (constantI S_ 32 0#32)) pads_S1024x12_S1024x128_000_01160 h_S_

/-- A group's gate columns, padded to 128 lanes. -/
def pad1 (w : FVec Ideal S1024x5912 .f32) : FVec Ideal S1024x128 .f32 :=
  pad S1024x128 ![0, 0] ![0, 116] ![0, 0] (shapeCast S1024x12 (shapeCast S1024x3x4 (extractStridedSlice S1024x3x1x4 ![0, 0, 1, 0] (gcols w) slices_S1024x3x2x4_S1024x3x1x4_0_0_1_0) shapeCasts_S1024x3x1x4_S1024x3x4) shapeCasts_S1024x3x4_S1024x12) (sitofp (F := Ideal) .f32 (constantI S_ 32 0#32)) pads_S1024x12_S1024x128_000_01160 h_S_

/-- The compressed branch's columns and the two groups' gate columns. -/
def WA (w : FVec Ideal S1024x5912 .f32) : FVec Ideal S1024x512 .bf16 :=
  truncf .bf16 (concatenate S1024x512 1 [⟨S1024x128, (extractStridedSlice S1024x128 ![0, 2048] w slices_S1024x5912_S1024x128_0_2048 : (⟨S1024x128, .f32⟩ : BufTy).Contents (Elt Ideal))⟩,
    ⟨S1024x128, (extractStridedSlice S1024x128 ![0, 2176] w slices_S1024x5912_S1024x128_0_2176 : (⟨S1024x128, .f32⟩ : BufTy).Contents (Elt Ideal))⟩,
    ⟨S1024x128, (pad0 w : (⟨S1024x128, .f32⟩ : BufTy).Contents (Elt Ideal))⟩,
    ⟨S1024x128, (pad1 w : (⟨S1024x128, .f32⟩ : BufTy).Contents (Elt Ideal))⟩]
    concatenates_S1024x128_S1024x128_S1024x128_S1024x128_S1024x512_d1 : (⟨S1024x512, .f32⟩ : BufTy).Contents (Elt Ideal)) bitsLt_bf16_f32

/-- 128 ones. -/
def ones : FVec Ideal S128 .f32 := broadcastInDim S128 ![] bcast_S_S128 (constant S_ .f32 0x3F800000#32)
/-- 128 times the softmax scale. -/
def scales : FVec Ideal S128 .f32 := broadcastInDim S128 ![] bcast_S_S128 (constant S_ .f32 0x3E000000#32)
/-- A gain of 64 lanes beside its copy. -/
def pair (g : FVec Ideal S64 .f32) : FVec Ideal S128 .f32 :=
  concatenate S128 0 [⟨S64, (g : (⟨S64, .f32⟩ : BufTy).Contents (Elt Ideal))⟩, ⟨S64, (g : (⟨S64, .f32⟩ : BufTy).Contents (Elt Ideal))⟩] concatenates_S64_S64_S128_d0
/-- A row of the three key gains. -/
def row1 (g : FVec Ideal S3x64 .f32) : FVec Ideal S64 .f32 := shapeCast S64 (extractStridedSlice S1x64 ![1, 0] g slices_S3x64_S1x64_1_0) shapeCasts_S1x64_S64
/-- A row of the three key gains. -/
def row2 (g : FVec Ideal S3x64 .f32) : FVec Ideal S64 .f32 := shapeCast S64 (extractStridedSlice S1x64 ![2, 0] g slices_S3x64_S1x64_2_0) shapeCasts_S1x64_S64

/-- The gain of the stick-breaking queries. -/
def gS : FVec Ideal S128 .f32 := mulf ones scales
/-- The gain of the block-selecting queries. -/
def gMq (g : FVec Ideal S64 .f32) : FVec Ideal S128 .f32 := mulf (pair g) scales
/-- The gain of the block-selecting keys. -/
def gMk (g : FVec Ideal S64 .f32) : FVec Ideal S128 .f32 := mulf (pair g) ones
/-- The gain of the native-sparse queries. -/
def gNq (g : FVec Ideal S64 .f32) : FVec Ideal S128 .f32 := mulf (pair g) scales
/-- The gain of the selection keys. -/
def gK1 (g : FVec Ideal S3x64 .f32) : FVec Ideal S128 .f32 := mulf (pair (row1 g)) ones
/-- The gain of the window keys. -/
def gK2 (g : FVec Ideal S3x64 .f32) : FVec Ideal S128 .f32 := mulf (pair (row2 g)) ones

/-- The first sixteen blocks of gains. -/
def G16 (g3 g4 g5 : FVec Ideal S64 .f32) : FVec Ideal S2048 .f32 :=
  concatenate S2048 0 [⟨S128, (gS : (⟨S128, .f32⟩ : BufTy).Contents (Elt Ideal))⟩,
      ⟨S128, (gS : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩,
      ⟨S128, ((gMq g3) : (⟨S128, .f32⟩ : BufTy).Contents (Elt Ideal))⟩,
      ⟨S128, ((gMq g3) : (⟨S128, .f32⟩ : BufTy).Contents (Elt Ideal))⟩,
      ⟨S128, ((gMk g4) : (⟨S128, .f32⟩ : BufTy).Contents (Elt Ideal))⟩,
      ⟨S128, ((gMk g4) : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩,
      ⟨S128, ((gNq g5) : (⟨S128, .f32⟩ : BufTy).Contents (Elt Ideal))⟩,
      ⟨S128, ((gNq g5) : (⟨S128, .f32⟩ : BufTy).Contents (Elt Ideal))⟩,
      ⟨S128, ((gNq g5) : (⟨S128, .f32⟩ : BufTy).Contents (Elt Ideal))⟩,
      ⟨S128, ((gNq g5) : (⟨S128, .f32⟩ : BufTy).Contents (Elt Ideal))⟩] concatenates_S128_S128_S128_S128_S128_S128_S128_S128_S128_S128_S128_S128_S128_S128_S128_S128_S2048_d0

/-- The last eight. -/
def G8 (g6 : FVec Ideal S3x64 .f32) : FVec Ideal S1024 .f32 :=
  concatenate S1024 0 [⟨S128, ((gK1 g6) : (⟨S128, .f32⟩ : BufTy).Contents (Elt Ideal))⟩,
      ⟨S128, ((gK1 g6) : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩,
      ⟨S128, ((gK2 g6) : (⟨S128, .f32⟩ : BufTy).Contents (Elt Ideal))⟩,
      ⟨S128, ((gK2 g6) : (⟨S128, .f32⟩ : BufTy).Contents (Elt Ideal))⟩,
      ⟨S128, (ones : (⟨S128, .f32⟩ : BufTy).Contents (Elt Ideal))⟩,
      ⟨S128, (ones : (⟨S128, .f32⟩ : BufTy).Contents (Elt Ideal))⟩] concatenates_S128_S128_S128_S128_S128_S128_S128_S128_S1024_d0

/-- The row of gains. -/
def GAIN (g3 g4 g5 : FVec Ideal S64 .f32) (g6 : FVec Ideal S3x64 .f32) : FVec Ideal S1x3072 .f32 :=
  shapeCast S1x3072 (concatenate S3072 0 [⟨S2048, (G16 g3 g4 g5 : (⟨S2048, .f32⟩ : BufTy).Contents (Elt Ideal))⟩,
    ⟨S1024, (G8 g6 : (⟨S1024, .f32⟩ : BufTy).Contents (Elt Ideal))⟩] concatenates_S2048_S1024_S3072_d0 : (⟨S3072, .f32⟩ : BufTy).Contents (Elt Ideal)) shapeCasts_S3072_S1x3072

variable (m : (ℓ : Loc nD τ sig) → Buf (Elt Ideal) ℓ)

set_option maxHeartbeats 4000000 in
theorem V_wq (c : Dev nD) : V m c main_v22 = WQ (m ((c : Thread nD τ).loc main_arg2)) := by
  unfold V
  simp only [hostOps0, hostOps0_1, hostOps0_2, hostOps0_3, hostOps0_4, List.flatten_cons, List.flatten_nil, List.append_nil, List.cons_append, List.nil_append]
  after_results_simp <;> rfl

set_option maxHeartbeats 4000000 in
theorem V_wa (c : Dev nD) : V m c main_v32 = WA (m ((c : Thread nD τ).loc main_arg2)) := by
  unfold V
  simp only [hostOps0, hostOps0_1, hostOps0_2, hostOps0_3, hostOps0_4, List.flatten_cons, List.flatten_nil, List.append_nil, List.cons_append, List.nil_append]
  after_results_simp <;> rfl

set_option maxHeartbeats 4000000 in
theorem V_g (c : Dev nD) : V m c main_v59 = shapeCast S1x1024 (m ((c : Thread nD τ).loc main_arg1)) shapeCasts_S1024_S1x1024 := by
  unfold V
  simp only [hostOps0, hostOps0_1, hostOps0_2, hostOps0_3, hostOps0_4, List.flatten_cons, List.flatten_nil, List.append_nil, List.cons_append, List.nil_append]
  after_results_simp <;> rfl

set_option maxHeartbeats 4000000 in
theorem V_gain (c : Dev nD) : V m c main_v58 = GAIN (m ((c : Thread nD τ).loc main_arg3)) (m ((c : Thread nD τ).loc main_arg4))
    (m ((c : Thread nD τ).loc main_arg5)) (m ((c : Thread nD τ).loc main_arg6)) := by
  unfold V
  simp only [hostOps0, hostOps0_1, hostOps0_2, hostOps0_3, hostOps0_4, List.flatten_cons, List.flatten_nil, List.append_nil, List.cons_append, List.nil_append]
  after_results_simp <;> rfl

/-- The column of the weight a packed column comes from. -/
def src (n : ℕ) : ℕ := if n < 2048 then n else 2304 + (n - 2048) / 256 * 128 + (n - 2048) % 256 / 128 * 64 + n % 64

theorem src_lt (n : Fin 3072) : src n < 5912 := by unfold src; split <;> omega

theorem WQ_at (w : FVec Ideal S1024x5912 .f32) (k : Fin 1024) (n : Fin 3072) :
    WQ w (ix2 k n) = w (ix2 k ⟨src n, src_lt n⟩) := by
  pointwise [WQ, dup, src]
  split_ifs <;> first | (exfalso; omega) | blk_ext

/-- The pad value is nought. -/
theorem sitofp_zero : (FloatOps.sitofp .f32 (0#32 : BitVec 32) : Ideal .f32) = 0 := by
  simp [FloatOps.sitofp]

/-- A gate lane's own column, or none. -/
theorem pad0_at (w : FVec Ideal S1024x5912 .f32) (k : Fin 1024) (l : Fin 128) :
    pad0 w (ix2 k l) = if h : (l : ℕ) < 12 then w (ix2 k ⟨2816 + ((l : ℕ) / 4 * 8 + (l : ℕ) % 4), by omega⟩) else 0 := by
  pointwise [pad0, gcols]
  simp only [sitofp_zero]

theorem pad1_at (w : FVec Ideal S1024x5912 .f32) (k : Fin 1024) (l : Fin 128) :
    pad1 w (ix2 k l) = if h : (l : ℕ) < 12 then w (ix2 k ⟨2816 + ((l : ℕ) / 4 * 8 + 4 + (l : ℕ) % 4), by omega⟩) else 0 := by
  pointwise [pad1, gcols]
  simp only [sitofp_zero]

/-- The gate columns of `aux`, the first group's. -/
theorem WA_at0 (w : FVec Ideal S1024x5912 .f32) (k : Fin 1024) (n : Fin 512) (l : Fin 128) (h : (n : ℕ) = 256 + l) :
    WA w (ix2 k n) = pad0 w (ix2 k l) := by
  pointwise [WA]
  rw [dif_neg (by omega), dif_neg (by omega), dif_pos (by omega)]
  blk_ext

/-- The gate columns of `aux`, the second group's. -/
theorem WA_at1 (w : FVec Ideal S1024x5912 .f32) (k : Fin 1024) (n : Fin 512) (l : Fin 128) (h : (n : ℕ) = 384 + l) :
    WA w (ix2 k n) = pad1 w (ix2 k l) := by
  pointwise [WA]
  rw [dif_neg (by omega), dif_neg (by omega), dif_neg (by omega)]
  blk_ext

theorem WA_kc (w : FVec Ideal S1024x5912 .f32) (k : Fin 1024) (n : Fin 512) (l : Fin 128) (h : (n : ℕ) = l) :
    WA w (ix2 k n) = w (ix2 k ⟨2048 + l, by omega⟩) := by
  pointwise [WA]
  rw [dif_pos (by omega)]
  blk_ext

theorem WA_vc (w : FVec Ideal S1024x5912 .f32) (k : Fin 1024) (n : Fin 512) (l : Fin 128) (h : (n : ℕ) = 128 + l) :
    WA w (ix2 k n) = w (ix2 k ⟨2176 + l, by omega⟩) := by
  pointwise [WA]
  rw [dif_neg (by omega), dif_pos (by omega)]
  blk_ext

/-- A gain beside its copy, at a lane. -/
theorem pair_at (g : FVec Ideal S64 .f32) (l : Fin 128) : pair g (ix1 l) = g (ix1 ⟨(l : ℕ) % 64, by omega⟩) := by
  pointwise [pair]
  split_ifs <;> first | (exfalso; omega) | blk_ext

/-- The row of gains, block by block of 128 lanes. -/
def gblk (g3 g4 g5 : FVec Ideal S64 .f32) (g6 : FVec Ideal S3x64 .f32) : ℕ → FVec Ideal S128 .f32
  | 0 => gS
  | 1 => gS
  | 2 => ones
  | 3 => ones
  | 4 => ones
  | 5 => ones
  | 6 => gMq g3
  | 7 => gMq g3
  | 8 => gMk g4
  | 9 => gMk g4
  | 10 => ones
  | 11 => ones
  | 12 => gNq g5
  | 13 => gNq g5
  | 14 => gNq g5
  | 15 => gNq g5
  | 16 => gK1 g6
  | 17 => gK1 g6
  | 18 => ones
  | 19 => ones
  | 20 => gK2 g6
  | 21 => gK2 g6
  | 22 => ones
  | 23 => ones
  | _ => ones

theorem G8_at (g6 : FVec Ideal S3x64 .f32) (n : Fin 1024) (g3 g4 g5 : FVec Ideal S64 .f32) :
    G8 g6 (ix1 n) = gblk g3 g4 g5 g6 (16 + (n : ℕ) / 128) (ix1 ⟨(n : ℕ) % 128, by omega⟩) :=
  concatenate_ofFn_apply (t := S1024) (s₁ := S128) 0 (fun b : Fin 8 => gblk g3 g4 g5 g6 (16 + b))
    concatenates_S128_S128_S128_S128_S128_S128_S128_S128_S1024_d0 rfl 128 rfl (ix1 n) ⟨(n : ℕ) / 128, by omega⟩ rfl
    (ix1 ⟨(n : ℕ) % 128, by omega⟩) rfl (fun b hb => absurd (Subsingleton.elim (α := Fin 1) _ _) hb)

theorem G16_at (g3 g4 g5 : FVec Ideal S64 .f32) (n : Fin 2048) (g6 : FVec Ideal S3x64 .f32) :
    G16 g3 g4 g5 (ix1 n) = gblk g3 g4 g5 g6 ((n : ℕ) / 128) (ix1 ⟨(n : ℕ) % 128, by omega⟩) :=
  concatenate_ofFn_apply (t := S2048) (s₁ := S128) 0 (fun b : Fin 16 => gblk g3 g4 g5 g6 b)
    concatenates_S128_S128_S128_S128_S128_S128_S128_S128_S128_S128_S128_S128_S128_S128_S128_S128_S2048_d0 rfl 128 rfl
    (ix1 n) ⟨(n : ℕ) / 128, by omega⟩ rfl
    (ix1 ⟨(n : ℕ) % 128, by omega⟩) rfl (fun b hb => absurd (Subsingleton.elim (α := Fin 1) _ _) hb)

theorem GAIN_at (g3 g4 g5 : FVec Ideal S64 .f32) (g6 : FVec Ideal S3x64 .f32) (n : Fin 3072) :
    GAIN g3 g4 g5 g6 (ix2 0 n) = gblk g3 g4 g5 g6 ((n : ℕ) / 128) (ix1 ⟨(n : ℕ) % 128, by omega⟩) := by
  pointwise [GAIN]
  by_cases h : (n : ℕ) < 2048
  · rw [dif_pos h, G16_at g3 g4 g5 _ g6]
  · rw [dif_neg h, G8_at g6 _ g3 g4 g5]
    have e : 16 + ((n : ℕ) - 2048) / 128 = (n : ℕ) / 128 := by omega
    simp only [e]
    congr 2; ext; simp only []; omega

end Cert.InprojVal
end
-- ==== Proof.InprojValue.lean ====
/- The value of the input projection: each result array after the kernel's run is the reference's
   term of the arguments, read index by index over the extended reals. -/
module

public import proofs.«01_k».proof.Proof.InprojHost
public import proofs.«01_k».proof.Proof.Gen.InprojReferenceIdeal.Run
public import Idealize.ShloMosaic.Lib.Pipeline.ValueKit
public import Idealize.ShloMosaic.Lib.Claim

@[expose] public section

set_option maxRecDepth 16384

noncomputable section

namespace Cert.InprojRef

open Cert.InprojReferenceIdeal Cert.InprojReferenceIdeal.Gen Idealize.ShloMosaic

/-- The normalised rows of the reference. -/
abbrev rms (x0 : FVec Ideal S32768x1024 .f32) (x1 : FVec Ideal S1024 .f32) : FVec Ideal S32768x1024 .f32 :=
  mulf (mulf x0 (broadcastInDim S32768x1024 ![0, 1] bcast_S32768x1_S32768x1024_0_1 (Host.rsqrt (addf (Host.divf (broadcastInDim S32768x1 ![0] bcast_S32768_S32768x1_0 (Host.reduceAdd (mulf x0 x0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 x1))

/-- The projected rows, all columns. -/
abbrev proj (x0 : FVec Ideal S32768x1024 .f32) (x1 : FVec Ideal S1024 .f32) (x2 : FVec Ideal S1024x5912 .f32) : FVec Ideal S32768x5912 .f32 :=
  Host.dotGeneral dot_S32768x1024_S1024x5912_S32768x5912_1_0_0_1_n_n none (rms x0 x1) x2

/-- The stick-breaking queries, scaled. -/
def sbQ (p : FVec Ideal S32768x5912 .f32) : FVec Ideal S32768x256 .f32 :=
  (mulf (extractStridedSlice S32768x256 ![0, 0] p slices_S32768x5912_S32768x256_0_0) (broadcastInDim S32768x256 ![] bcast_S_S32768x256 (constant S_ .f32 0x3E000000#32)))

/-- The stick-breaking keys. -/
def sbK (p : FVec Ideal S32768x5912 .f32) : FVec Ideal S32768x256 .f32 :=
  (extractStridedSlice S32768x256 ![0, 256] p slices_S32768x5912_S32768x256_0_256)

/-- The stick-breaking values. -/
def sbV (p : FVec Ideal S32768x5912 .f32) : FVec Ideal S32768x256 .f32 :=
  (extractStridedSlice S32768x256 ![0, 512] p slices_S32768x5912_S32768x256_0_512)

/-- The block-selecting queries, normalised by head and scaled. -/
def mobaQ (p : FVec Ideal S32768x5912 .f32) (x3 : FVec Ideal S64 .f32) : FVec Ideal S32768x256 .f32 :=
  (mulf (shapeCast _ (mulf (mulf (shapeCast _ (extractStridedSlice S32768x256 ![0, 768] p slices_S32768x5912_S32768x256_0_768) shapeCasts_S32768x256_S32768x4x64) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (shapeCast _ (extractStridedSlice S32768x256 ![0, 768] p slices_S32768x5912_S32768x256_0_768) shapeCasts_S32768x256_S32768x4x64) (shapeCast _ (extractStridedSlice S32768x256 ![0, 768] p slices_S32768x5912_S32768x256_0_768) shapeCasts_S32768x256_S32768x4x64)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x1x64_S32768x4x64_0_1_2 (broadcastInDim S1x1x64 ![2] bcast_S64_S1x1x64_2 x3))) shapeCasts_S32768x4x64_S32768x256) (broadcastInDim S32768x256 ![] bcast_S_S32768x256 (constant S_ .f32 0x3E000000#32)))

/-- The block-selecting keys, normalised by head. -/
def mobaK (p : FVec Ideal S32768x5912 .f32) (x4 : FVec Ideal S64 .f32) : FVec Ideal S32768x256 .f32 :=
  (shapeCast _ (mulf (mulf (shapeCast _ (extractStridedSlice S32768x256 ![0, 1024] p slices_S32768x5912_S32768x256_0_1024) shapeCasts_S32768x256_S32768x4x64) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (shapeCast _ (extractStridedSlice S32768x256 ![0, 1024] p slices_S32768x5912_S32768x256_0_1024) shapeCasts_S32768x256_S32768x4x64) (shapeCast _ (extractStridedSlice S32768x256 ![0, 1024] p slices_S32768x5912_S32768x256_0_1024) shapeCasts_S32768x256_S32768x4x64)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x1x64_S32768x4x64_0_1_2 (broadcastInDim S1x1x64 ![2] bcast_S64_S1x1x64_2 x4))) shapeCasts_S32768x4x64_S32768x256)

/-- The block-selecting values. -/
def mobaV (p : FVec Ideal S32768x5912 .f32) : FVec Ideal S32768x256 .f32 :=
  (extractStridedSlice S32768x256 ![0, 1280] p slices_S32768x5912_S32768x256_0_1280)

/-- The native-sparse queries, normalised by head and scaled. -/
def nsaQ (p : FVec Ideal S32768x5912 .f32) (x5 : FVec Ideal S64 .f32) : FVec Ideal S32768x512 .f32 :=
  (mulf (shapeCast _ (mulf (mulf (shapeCast _ (extractStridedSlice S32768x512 ![0, 1536] p slices_S32768x5912_S32768x512_0_1536) shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast _ (extractStridedSlice S32768x512 ![0, 1536] p slices_S32768x5912_S32768x512_0_1536) shapeCasts_S32768x512_S32768x8x64) (shapeCast _ (extractStridedSlice S32768x512 ![0, 1536] p slices_S32768x5912_S32768x512_0_1536) shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 x5))) shapeCasts_S32768x8x64_S32768x512) (broadcastInDim S32768x512 ![] bcast_S_S32768x512 (constant S_ .f32 0x3E000000#32)))

/-- The selection keys, normalised by head, each beside its copy. -/
def nsaKs (p : FVec Ideal S32768x5912 .f32) (x6 : FVec Ideal S3x64 .f32) : FVec Ideal S32768x256 .f32 :=
  (shapeCast _ (broadcastInDim S32768x2x2x64 ![0, 1, 2, 3] bcast_S32768x2x1x64_S32768x2x2x64_0_1_2_3 (shapeCast _ (shapeCast _ (mulf (mulf (shapeCast _ (extractStridedSlice S32768x128 ![0, 2304] p slices_S32768x5912_S32768x128_0_2304) shapeCasts_S32768x128_S32768x2x64) (broadcastInDim S32768x2x64 ![0, 1, 2] bcast_S32768x2x1_S32768x2x64_0_1_2 (Host.rsqrt (addf (Host.divf (broadcastInDim S32768x2x1 ![0, 1] bcast_S32768x2_S32768x2x1_0_1 (Host.reduceAdd (mulf (shapeCast _ (extractStridedSlice S32768x128 ![0, 2304] p slices_S32768x5912_S32768x128_0_2304) shapeCasts_S32768x128_S32768x2x64) (shapeCast _ (extractStridedSlice S32768x128 ![0, 2304] p slices_S32768x5912_S32768x128_0_2304) shapeCasts_S32768x128_S32768x2x64)) (constant S_ .f32 0x00000000#32) reducesTo_S32768x2x64_S32768x2_d2 h_S_)) (broadcastInDim S32768x2x1 ![] bcast_S_S32768x2x1 (constant S_ .f32 0x42800000#32))) (broadcastInDim S32768x2x1 ![] bcast_S_S32768x2x1 (constant S_ .f32 0x358637BD#32)))))) (broadcastInDim S32768x2x64 ![0, 1, 2] bcast_S1x1x64_S32768x2x64_0_1_2 (broadcastInDim S1x1x64 ![2] bcast_S64_S1x1x64_2 (shapeCast _ (extractStridedSlice S1x64 ![1, 0] x6 slices_S3x64_S1x64_1_0) shapeCasts_S1x64_S64)))) shapeCasts_S32768x2x64_S32768x128) shapeCasts_S32768x128_S32768x2x1x64)) shapeCasts_S32768x2x2x64_S32768x256)

/-- The selection values, each beside its copy. -/
def nsaVs (p : FVec Ideal S32768x5912 .f32) : FVec Ideal S32768x256 .f32 :=
  (shapeCast _ (broadcastInDim S32768x2x2x64 ![0, 1, 2, 3] bcast_S32768x2x1x64_S32768x2x2x64_0_1_2_3 (shapeCast _ (extractStridedSlice S32768x128 ![0, 2432] p slices_S32768x5912_S32768x128_0_2432) shapeCasts_S32768x128_S32768x2x1x64)) shapeCasts_S32768x2x2x64_S32768x256)

/-- The window keys, normalised by head, each beside its copy. -/
def nsaKw (p : FVec Ideal S32768x5912 .f32) (x6 : FVec Ideal S3x64 .f32) : FVec Ideal S32768x256 .f32 :=
  (shapeCast _ (broadcastInDim S32768x2x2x64 ![0, 1, 2, 3] bcast_S32768x2x1x64_S32768x2x2x64_0_1_2_3 (shapeCast _ (shapeCast _ (mulf (mulf (shapeCast _ (extractStridedSlice S32768x128 ![0, 2560] p slices_S32768x5912_S32768x128_0_2560) shapeCasts_S32768x128_S32768x2x64) (broadcastInDim S32768x2x64 ![0, 1, 2] bcast_S32768x2x1_S32768x2x64_0_1_2 (Host.rsqrt (addf (Host.divf (broadcastInDim S32768x2x1 ![0, 1] bcast_S32768x2_S32768x2x1_0_1 (Host.reduceAdd (mulf (shapeCast _ (extractStridedSlice S32768x128 ![0, 2560] p slices_S32768x5912_S32768x128_0_2560) shapeCasts_S32768x128_S32768x2x64) (shapeCast _ (extractStridedSlice S32768x128 ![0, 2560] p slices_S32768x5912_S32768x128_0_2560) shapeCasts_S32768x128_S32768x2x64)) (constant S_ .f32 0x00000000#32) reducesTo_S32768x2x64_S32768x2_d2 h_S_)) (broadcastInDim S32768x2x1 ![] bcast_S_S32768x2x1 (constant S_ .f32 0x42800000#32))) (broadcastInDim S32768x2x1 ![] bcast_S_S32768x2x1 (constant S_ .f32 0x358637BD#32)))))) (broadcastInDim S32768x2x64 ![0, 1, 2] bcast_S1x1x64_S32768x2x64_0_1_2 (broadcastInDim S1x1x64 ![2] bcast_S64_S1x1x64_2 (shapeCast _ (extractStridedSlice S1x64 ![2, 0] x6 slices_S3x64_S1x64_2_0) shapeCasts_S1x64_S64)))) shapeCasts_S32768x2x64_S32768x128) shapeCasts_S32768x128_S32768x2x1x64)) shapeCasts_S32768x2x2x64_S32768x256)

/-- The window values, each beside its copy. -/
def nsaVw (p : FVec Ideal S32768x5912 .f32) : FVec Ideal S32768x256 .f32 :=
  (shapeCast _ (broadcastInDim S32768x2x2x64 ![0, 1, 2, 3] bcast_S32768x2x1x64_S32768x2x2x64_0_1_2_3 (shapeCast _ (extractStridedSlice S32768x128 ![0, 2688] p slices_S32768x5912_S32768x128_0_2688) shapeCasts_S32768x128_S32768x2x1x64)) shapeCasts_S32768x2x2x64_S32768x256)

/-- The eleven groups of columns side by side. -/
abbrev qkv (p : FVec Ideal S32768x5912 .f32) (x3 x4 x5 : FVec Ideal S64 .f32) (x6 : FVec Ideal S3x64 .f32) : FVec Ideal S32768x3072 .bf16 :=
  truncf .bf16 ((concatenate S32768x3072 1 [⟨S32768x256, (sbQ p : (⟨S32768x256, .f32⟩ : BufTy).Contents (Elt Ideal))⟩, ⟨S32768x256, (sbK p : (⟨S32768x256, .f32⟩ : BufTy).Contents (Elt Ideal))⟩, ⟨S32768x256, (sbV p : (⟨S32768x256, .f32⟩ : BufTy).Contents (Elt Ideal))⟩, ⟨S32768x256, (mobaQ p x3 : (⟨S32768x256, .f32⟩ : BufTy).Contents (Elt Ideal))⟩, ⟨S32768x256, (mobaK p x4 : (⟨S32768x256, .f32⟩ : BufTy).Contents (Elt Ideal))⟩, ⟨S32768x256, (mobaV p : (⟨S32768x256, .f32⟩ : BufTy).Contents (Elt Ideal))⟩, ⟨S32768x512, (nsaQ p x5 : (⟨S32768x512, .f32⟩ : BufTy).Contents (Elt Ideal))⟩, ⟨S32768x256, (nsaKs p x6 : (⟨S32768x256, .f32⟩ : BufTy).Contents (Elt Ideal))⟩, ⟨S32768x256, (nsaVs p : (⟨S32768x256, .f32⟩ : BufTy).Contents (Elt Ideal))⟩, ⟨S32768x256, (nsaKw p x6 : (⟨S32768x256, .f32⟩ : BufTy).Contents (Elt Ideal))⟩, ⟨S32768x256, (nsaVw p : (⟨S32768x256, .f32⟩ : BufTy).Contents (Elt Ideal))⟩] concatenates_S32768x256_S32768x256_S32768x256_S32768x256_S32768x256_S32768x256_S32768x512_S32768x256_S32768x256_S32768x256_S32768x256_S32768x3072_d1 : (⟨S32768x3072, .f32⟩ : BufTy).Contents (Elt Ideal))) bitsLt_bf16_f32

/-- The compressed branch's keys. -/
abbrev kc (p : FVec Ideal S32768x5912 .f32) : FVec Ideal S32768x128 .f32 :=
  extractStridedSlice S32768x128 ![0, 2048] p slices_S32768x5912_S32768x128_0_2048

/-- The compressed branch's values. -/
abbrev vc (p : FVec Ideal S32768x5912 .f32) : FVec Ideal S32768x128 .f32 :=
  extractStridedSlice S32768x128 ![0, 2176] p slices_S32768x5912_S32768x128_0_2176

/-- The branch gates, each group's twelve in its own 128 lanes. -/
abbrev gate (p : FVec Ideal S32768x5912 .f32) : FVec Ideal S32768x256 .f32 :=
  Host.divf (broadcastInDim S32768x256 ![] bcast_S_S32768x256 (constant S_ .f32 0x3F800000#32)) (addf (broadcastInDim S32768x256 ![] bcast_S_S32768x256 (constant S_ .f32 0x3F800000#32)) (Host.exp (Host.negf (shapeCast _ (pad S32768x2x128 ![0, 0, 0] ![0, 0, 116] ![0, 0, 0] (shapeCast _ (transpose S32768x2x3x4 [0, 2, 1, 3] (shapeCast _ (extractStridedSlice S32768x24 ![0, 2816] p slices_S32768x5912_S32768x24_0_2816) shapeCasts_S32768x24_S32768x3x2x4) transposes_S32768x3x2x4_S32768x2x3x4_0_2_1_3) shapeCasts_S32768x2x3x4_S32768x2x12) (sitofp .f32 (constantI S_ 32 0#32)) pads_S32768x2x12_S32768x2x128_000_000_01160 h_S_) shapeCasts_S32768x2x128_S32768x256))))

end Cert.InprojRef

namespace Cert.InprojVal

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem t_lt (t : Fin cfg0.N) : t.val < 64 := lt_of_lt_of_eq t.isLt (by decide +kernel)

theorem b0 (c : Dev nD) (t : Fin cfg0.N) (r : Fin 512) (k : Fin 1024) :
    (iblk m c 0 t : FVec Ideal S512x1024 .f32) (ix2 r k)
      = (m ((c : Thread nD τ).loc main_arg0) : FVec Ideal S32768x1024 .f32) (ix2 ⟨512 * t.val + r, by have := t_lt t; omega⟩ k) := by
  blk_point [iblk, V_main_arg0, idx t]

theorem b1 (c : Dev nD) (t : Fin cfg0.N) (k : Fin 1024) :
    (iblk m c 1 t : FVec Ideal S1x1024 .f32) (ix2 0 k)
      = (m ((c : Thread nD τ).loc main_arg1) : FVec Ideal S1024 .f32) (ix1 k) := by
  have h : (iblk m c 1 t : FVec Ideal S1x1024 .f32) (ix2 0 k) = (V m c main_v59 : FVec Ideal S1x1024 .f32) (ix2 0 k) := by
    blk_simp [iblk, idx t]
    blk_ext <;> simp [idx t]
  rw [h, V_g]
  pointwise []

theorem b2 (c : Dev nD) (t : Fin cfg0.N) (k : Fin 1024) (n : Fin 3072) :
    (iblk m c 2 t : FVec Ideal S1024x3072 .bf16) (ix2 k n)
      = (m ((c : Thread nD τ).loc main_arg2) : FVec Ideal S1024x5912 .f32) (ix2 k ⟨src n, src_lt n⟩) := by
  have h : (iblk m c 2 t : FVec Ideal S1024x3072 .bf16) (ix2 k n) = (V m c main_v22 : FVec Ideal S1024x3072 .bf16) (ix2 k n) := by
    blk_simp [iblk, idx t]
    blk_ext <;> simp [idx t]
  rw [h, V_wq, WQ_at]

theorem b3 (c : Dev nD) (t : Fin cfg0.N) (k : Fin 1024) (n : Fin 512) :
    (iblk m c 3 t : FVec Ideal S1024x512 .bf16) (ix2 k n)
      = WA (m ((c : Thread nD τ).loc main_arg2)) (ix2 k n) := by
  have h : (iblk m c 3 t : FVec Ideal S1024x512 .bf16) (ix2 k n) = (V m c main_v32 : FVec Ideal S1024x512 .bf16) (ix2 k n) := by
    blk_simp [iblk, idx t]
    blk_ext <;> simp [idx t]
  rw [h, V_wa]

theorem b4 (c : Dev nD) (t : Fin cfg0.N) (n : Fin 3072) :
    (iblk m c 4 t : FVec Ideal S1x3072 .f32) (ix2 0 n)
      = GAIN (m ((c : Thread nD τ).loc main_arg3)) (m ((c : Thread nD τ).loc main_arg4)) (m ((c : Thread nD τ).loc main_arg5))
          (m ((c : Thread nD τ).loc main_arg6)) (ix2 0 n) := by
  have h : (iblk m c 4 t : FVec Ideal S1x3072 .f32) (ix2 0 n) = (V m c main_v58 : FVec Ideal S1x3072 .f32) (ix2 0 n) := by
    blk_simp [iblk, idx t]
    blk_ext <;> simp [idx t]
  rw [h, V_gain]

/-- The kernel's normalised rows are the reference's. -/
theorem h_at (c : Dev nD) (t : Fin cfg0.N) (r : Fin 512) (k : Fin 1024) :
    k0_pay1 (F := Ideal) (View.ld (iblk m c 0 t) r0_0) (View.ld (iblk m c 1 t) r0_1) (ix2 r k)
      = Cert.InprojRef.rms (m ((c : Thread nD τ).loc main_arg0)) (m ((c : Thread nD τ).loc main_arg1))
          (ix2 ⟨512 * t.val + r, by have := t_lt t; omega⟩ k) := by
  pointwise [k0_pay1, Cert.InprojRef.rms]
  simp only [b0, b1]

/-- A product of the kernel's rows with a column of the weights is the reference's projection. -/
theorem dot_w (c : Dev nD) (t : Fin cfg0.N) (r : Fin 512) (j : Fin 5912) :
    ∑ k : Fin 1024, k0_pay1 (F := Ideal) (View.ld (iblk m c 0 t) r0_0) (View.ld (iblk m c 1 t) r0_1) (ix2 r k) * m ((c : Thread nD τ).loc main_arg2) (ix2 k j)
      = Cert.InprojRef.proj (m ((c : Thread nD τ).loc main_arg0)) (m ((c : Thread nD τ).loc main_arg1))
          (m ((c : Thread nD τ).loc main_arg2)) (ix2 ⟨512 * t.val + r, by have := t_lt t; omega⟩ j) := by
  simp only [h_at]
  unfold Cert.InprojRef.proj
  generalize Cert.InprojRef.rms _ _ = R
  pointwise []

/-- The kernel's packed products are the reference's projection at the source column. -/
theorem dot_at (c : Dev nD) (t : Fin cfg0.N) (r : Fin 512) (n : Fin 3072) :
    ∑ k : Fin 1024, k0_pay1 (F := Ideal) (View.ld (iblk m c 0 t) r0_0) (View.ld (iblk m c 1 t) r0_1) (ix2 r k) * (iblk m c 2 t : FVec Ideal S1024x3072 .bf16) (ix2 k n)
      = Cert.InprojRef.proj (m ((c : Thread nD τ).loc main_arg0)) (m ((c : Thread nD τ).loc main_arg1))
          (m ((c : Thread nD τ).loc main_arg2)) (ix2 ⟨512 * t.val + r, by have := t_lt t; omega⟩ ⟨src n, src_lt n⟩) := by
  simp only [b2]
  exact dot_w m c t r _

theorem kc_point (c : Dev nD) (t : Fin cfg0.N) (r : Fin 512) (n : Fin 128) :
    out0_6 (F := Ideal) (iblk m c 0 t) (iblk m c 1 t) (iblk m c 2 t) (iblk m c 3 t) (iblk m c 4 t) (ix2 r n)
      = Cert.InprojRef.kc (Cert.InprojRef.proj (m ((c : Thread nD τ).loc main_arg0)) (m ((c : Thread nD τ).loc main_arg1))
          (m ((c : Thread nD τ).loc main_arg2))) (ix2 ⟨512 * t.val + r, by have := t_lt t; omega⟩ n) := by
  generalize hp : Cert.InprojRef.proj _ _ _ = p
  frame_out
  pointwise [k0_pay60, k0_pay57, k0_pay56, Cert.InprojRef.kc]
  simp only [b3]
  rw [← hp, ← dot_w]
  refine Finset.sum_congr rfl fun x _ => ?_
  rw [WA_kc _ _ _ n rfl]; rfl

theorem vc_point (c : Dev nD) (t : Fin cfg0.N) (r : Fin 512) (n : Fin 128) :
    out0_7 (F := Ideal) (iblk m c 0 t) (iblk m c 1 t) (iblk m c 2 t) (iblk m c 3 t) (iblk m c 4 t) (ix2 r n)
      = Cert.InprojRef.vc (Cert.InprojRef.proj (m ((c : Thread nD τ).loc main_arg0)) (m ((c : Thread nD τ).loc main_arg1))
          (m ((c : Thread nD τ).loc main_arg2))) (ix2 ⟨512 * t.val + r, by have := t_lt t; omega⟩ n) := by
  generalize hp : Cert.InprojRef.proj _ _ _ = p
  frame_out
  pointwise [k0_pay60, k0_pay58, k0_pay56, Cert.InprojRef.vc]
  simp only [b3]
  rw [← hp, ← dot_w]
  refine Finset.sum_congr rfl fun x _ => ?_
  rw [WA_vc _ _ _ n rfl]; rfl

theorem gate_point (c : Dev nD) (t : Fin cfg0.N) (r : Fin 512) (n : Fin 256) :
    out0_8 (F := Ideal) (iblk m c 0 t) (iblk m c 1 t) (iblk m c 2 t) (iblk m c 3 t) (iblk m c 4 t) (ix2 r n)
      = Cert.InprojRef.gate (Cert.InprojRef.proj (m ((c : Thread nD τ).loc main_arg0)) (m ((c : Thread nD τ).loc main_arg1))
          (m ((c : Thread nD τ).loc main_arg2))) (ix2 ⟨512 * t.val + r, by have := t_lt t; omega⟩ n) := by
  have hr : 512 * t.val + r.val < 32768 := by have := t_lt t; omega
  generalize hp : Cert.InprojRef.proj _ _ _ = p
  frame_out
  pointwise [k0_pay60, k0_pay59, k0_pay56, Cert.InprojRef.gate]
  simp only [b3, Ideal.logistic]
  congr 4
  by_cases h0 : n.val < 128
  · simp only [WA_at0 _ _ (⟨256 + n.val, by omega⟩ : Fin 512) (⟨n.val, h0⟩ : Fin 128) rfl, pad0_at]
    by_cases h : n.val < 12
    · have hd := dot_w m c t r ⟨2816 + (n.val / 4 * 8 + n.val % 4), by omega⟩
      rw [hp] at hd
      simp only [dif_pos h]
      rw [dif_pos ⟨hr, by omega, by omega⟩]
      refine hd.trans (congrArg (fun j => p (ix2 _ j)) (Fin.ext ?_))
      show 2816 + (n.val / 4 * 8 + n.val % 4) = 2816 + (n.val % 128 / 4 * 8 + n.val / 128 * 4 + n.val % 128 % 4)
      omega
    · rw [dif_neg (by omega)]
      simp only [dif_neg h, sitofp_zero, mul_zero, Finset.sum_const_zero]
  · simp only [WA_at1 _ _ (⟨256 + n.val, by omega⟩ : Fin 512) (⟨n.val - 128, by omega⟩ : Fin 128) (by show 256 + n.val = 384 + (n.val - 128); omega), pad1_at]
    by_cases h : n.val - 128 < 12
    · have hd := dot_w m c t r ⟨2816 + ((n.val - 128) / 4 * 8 + 4 + (n.val - 128) % 4), by omega⟩
      rw [hp] at hd
      simp only [dif_pos h]
      rw [dif_pos ⟨hr, by omega, by omega⟩]
      refine hd.trans (congrArg (fun j => p (ix2 _ j)) (Fin.ext ?_))
      show 2816 + ((n.val - 128) / 4 * 8 + 4 + (n.val - 128) % 4) = 2816 + (n.val % 128 / 4 * 8 + n.val / 128 * 4 + n.val % 128 % 4)
      omega
    · rw [dif_neg (by omega)]
      simp only [dif_neg h, sitofp_zero, mul_zero, Finset.sum_const_zero]

theorem final_kc (c : Dev nD) : (dats m 0 c).arrAt 6 cfg0.N = Cert.InprojRef.kc (Cert.InprojRef.proj (m ((c : Thread nD τ).loc main_arg0))
    (m ((c : Thread nD τ).loc main_arg1)) (m ((c : Thread nD τ).loc main_arg2))) := by
  refine (dats m 0 c).arrAt_eq_of_covers 6 _ (by decide +kernel) fun t hf y => ?_
  blk_simp
  rw [after0_6]
  idx_vars y
  refine (kc_point m c t _ _).trans ?_
  congr 1
  blk_ext <;> simp [idx t] <;> omega

theorem final_vc (c : Dev nD) : (dats m 0 c).arrAt 7 cfg0.N = Cert.InprojRef.vc (Cert.InprojRef.proj (m ((c : Thread nD τ).loc main_arg0))
    (m ((c : Thread nD τ).loc main_arg1)) (m ((c : Thread nD τ).loc main_arg2))) := by
  refine (dats m 0 c).arrAt_eq_of_covers 7 _ (by decide +kernel) fun t hf y => ?_
  blk_simp
  rw [after0_7]
  idx_vars y
  refine (vc_point m c t _ _).trans ?_
  congr 1
  blk_ext <;> simp [idx t] <;> omega

theorem final_gate (c : Dev nD) : (dats m 0 c).arrAt 8 cfg0.N = Cert.InprojRef.gate (Cert.InprojRef.proj (m ((c : Thread nD τ).loc main_arg0))
    (m ((c : Thread nD τ).loc main_arg1)) (m ((c : Thread nD τ).loc main_arg2))) := by
  refine (dats m 0 c).arrAt_eq_of_covers 8 _ (by decide +kernel) fun t hf y => ?_
  blk_simp
  rw [after0_8]
  idx_vars y
  refine (gate_point m c t _ _).trans ?_
  congr 1
  blk_ext <;> simp [idx t] <;> omega

end Cert.InprojVal
end
-- ==== Proof.InprojBlocks.lean ====
/- The input projection's large result: the packed projections, block by block of 128 lanes. -/
module

public import proofs.«01_k».proof.Proof.InprojValue
public import proofs.«01_k».proof.Proof.Gen.InprojReferenceIdeal.Run
public import Idealize.ShloMosaic.Lib.Pipeline.ValueKit
public import Idealize.ShloMosaic.Lib.Claim

@[expose] public section

set_option maxRecDepth 16384

noncomputable section

namespace Cert.InprojVal

open Cert.InprojIdeal Cert.InprojIdeal.Gen Idealize.ShloMosaic Idealize.ShloMosaic.TcCoe Idealize.SL.Sem

variable (m : (ℓ : Loc nD τ sig) → Buf (Elt Ideal) ℓ)

/-- The projection at a row and a column given as a number. -/
def pn (p : FVec Ideal Cert.InprojReferenceIdeal.S32768x5912 .f32) (R : Fin 32768) (a : ℕ) : EReal :=
  if h : a < 5912 then p (ix2 R ⟨a, h⟩) else 0

theorem pn_eq (p : FVec Ideal Cert.InprojReferenceIdeal.S32768x5912 .f32) (R : Fin 32768) (j : Fin 5912) :
    p (ix2 R j) = pn p R j.val := by
  unfold pn; rw [dif_pos j.isLt]

/-- The projection with the row given as a number too. -/
def pq (p : FVec Ideal Cert.InprojReferenceIdeal.S32768x5912 .f32) (a b : ℕ) : EReal :=
  if h : a < 32768 then pn p ⟨a, h⟩ b else 0

theorem pq_eq (p : FVec Ideal Cert.InprojReferenceIdeal.S32768x5912 .f32) (R : Fin 32768) : pn p R = pq p R.val := by
  funext b; unfold pq; rw [dif_pos R.isLt]

/-- An entry over the root mean square of its head's 64 entries, which start at `base`. -/
def nrmf (q : ℕ → EReal) (base a : ℕ) : EReal :=
  q a * Ideal.rsqrt (Ideal.div (∑ x : Fin 64, q (base + x) * q (base + x)) (Ideal.ofBits FTy.f32 1115684864#32)
    + Ideal.ofBits FTy.f32 897988541#32)

theorem src_add (n x : ℕ) (hn : n % 64 = 0) (hx : x < 64) : src (n + x) = src n + x := by
  unfold src; split_ifs <;> omega

theorem src_low (n : ℕ) (hn : n < 2048) : src n = n := if_pos hn

theorem mul_inv64 (a : EReal) :
    a * Ideal.ofBits FTy.f32 1015021568#32 = Ideal.div a (Ideal.ofBits FTy.f32 1115684864#32) := by
  have h1 : Ideal.ofBits FTy.f32 1115684864#32 = ((64 : ℝ) : EReal) := by
    simp [Ideal.ofBits, Ideal.ieee, -EReal.coe_mul]; norm_num
  have h2 : Ideal.ofBits FTy.f32 1015021568#32 = (((1 : ℝ) / 64 : ℝ) : EReal) := by
    simp [Ideal.ofBits, Ideal.ieee, -EReal.coe_mul]; norm_num
  rw [h1, h2]; exact (Ideal.div_coe (y := (64 : ℝ)) (by norm_num) a).symm

theorem lane_lt (l : Fin 128) : IntOp.cmpi CmpIPredicate.slt (BitVec.ofNat 32 (l : ℕ)) 64#32 = if (l : ℕ) < 64 then 1#1 else 0#1 := by
  revert l; decide +kernel

/-- A sum over the lanes below 64 and one over those from 64 on. -/
theorem sum_low (f : ℕ → EReal) :
    ∑ x : Fin 128, Scalar.select (IntOp.cmpi CmpIPredicate.slt (BitVec.ofNat 32 (x : ℕ)) 64#32) (f x) 0 = ∑ x : Fin 64, f x := by
  rw [Fin.sum_univ_two_halves 64 64 rfl]
  have h1 : ∀ x : Fin 64, Scalar.select (IntOp.cmpi CmpIPredicate.slt (BitVec.ofNat 32 (x : ℕ)) 64#32) (f x) 0 = f x := fun x => by
    rw [lane_lt ⟨x, by omega⟩, if_pos x.isLt]; rfl
  have h2 : ∀ x : Fin 64, Scalar.select (IntOp.cmpi CmpIPredicate.slt (BitVec.ofNat 32 (64 + (x : ℕ))) 64#32) (f (64 + x)) 0 = (0 : EReal) := fun x => by
    rw [lane_lt ⟨64 + x, by omega⟩, if_neg (by show ¬ 64 + (x : ℕ) < 64; omega)]; rfl
  simp only [h1, h2, Finset.sum_const_zero, add_zero]

theorem sum_high (f : ℕ → EReal) :
    ∑ x : Fin 128, Scalar.select (IntOp.cmpi CmpIPredicate.slt (BitVec.ofNat 32 (x : ℕ)) 64#32) 0 (f x) = ∑ x : Fin 64, f (64 + x) := by
  rw [Fin.sum_univ_two_halves 64 64 rfl]
  have h1 : ∀ x : Fin 64, Scalar.select (IntOp.cmpi CmpIPredicate.slt (BitVec.ofNat 32 (x : ℕ)) 64#32) 0 (f x) = (0 : EReal) := fun x => by
    rw [lane_lt ⟨x, by omega⟩, if_pos x.isLt]; rfl
  have h2 : ∀ x : Fin 64, Scalar.select (IntOp.cmpi CmpIPredicate.slt (BitVec.ofNat 32 (64 + (x : ℕ))) 64#32) 0 (f (64 + x)) = f (64 + x) := fun x => by
    rw [lane_lt ⟨64 + x, by omega⟩, if_neg (by show ¬ 64 + (x : ℕ) < 64; omega)]; rfl
  simp only [h1, h2, Finset.sum_const_zero, zero_add]

/-- The kernel's normalised lane: the two half sums, the lane's own picked. -/
theorem norm_at (q : ℕ → EReal) (b : ℕ) (hb : b % 64 = 0) (l : Fin 128) :
    q (src (b + l)) * Ideal.rsqrt
      (Scalar.select (IntOp.cmpi CmpIPredicate.slt (BitVec.ofNat 32 (l : ℕ)) 64#32)
        (∑ x : Fin 128, Scalar.select (IntOp.cmpi CmpIPredicate.slt (BitVec.ofNat 32 (x : ℕ)) 64#32) (q (src (b + x)) * q (src (b + x))) 0)
        (∑ x : Fin 128, Scalar.select (IntOp.cmpi CmpIPredicate.slt (BitVec.ofNat 32 (x : ℕ)) 64#32) 0 (q (src (b + x)) * q (src (b + x))))
        * Ideal.ofBits FTy.f32 1015021568#32 + Ideal.ofBits FTy.f32 897988541#32)
      = nrmf q (src ((b + l) / 64 * 64)) (src (b + l)) := by
  rw [sum_low fun x => q (src (b + x)) * q (src (b + x)), sum_high fun x => q (src (b + x)) * q (src (b + x)), mul_inv64]
  unfold nrmf
  congr 4
  rw [lane_lt]
  by_cases h : (l : ℕ) < 64
  · rw [if_pos h, show (b + (l : ℕ)) / 64 * 64 = b by omega]
    simp only [fun x : Fin 64 => src_add b x hb x.isLt]; rfl
  · rw [if_neg h, show (b + (l : ℕ)) / 64 * 64 = b + 64 by omega]
    simp only [← Nat.add_assoc, fun x : Fin 64 => src_add (b + 64) x (by omega) x.isLt]; rfl

theorem qkv_sbQ (p : FVec Ideal Cert.InprojReferenceIdeal.S32768x5912 .f32) (x3 x4 x5 : FVec Ideal S64 .f32) (x6 : FVec Ideal S3x64 .f32)
    (R : Fin 32768) (n : Fin 3072) (h1 : 0 ≤ n.val) (h2 : n.val < 256) :
    Cert.InprojRef.qkv p x3 x4 x5 x6 (ix2 R n) = pn p R (src n) * Ideal.ofBits FTy.f32 1040187392#32 := by
  pointwise [Cert.InprojRef.qkv]
  rw [dif_pos (by omega)]
  pointwise [Cert.InprojRef.sbQ]
  simp only [pn_eq, ← Nat.add_assoc]
  rw [show src n.val = n.val from src_low _ (by omega)]

theorem qkv_sbK (p : FVec Ideal Cert.InprojReferenceIdeal.S32768x5912 .f32) (x3 x4 x5 : FVec Ideal S64 .f32) (x6 : FVec Ideal S3x64 .f32)
    (R : Fin 32768) (n : Fin 3072) (h1 : 256 ≤ n.val) (h2 : n.val < 512) :
    Cert.InprojRef.qkv p x3 x4 x5 x6 (ix2 R n) = pn p R (src n) := by
  pointwise [Cert.InprojRef.qkv]
  rw [dif_neg (by omega), dif_pos (by omega)]
  pointwise [Cert.InprojRef.sbK]
  simp only [pn_eq, ← Nat.add_assoc]
  rw [show 256 + (n.val - 256) = src n.val by unfold src; split_ifs <;> omega]

theorem qkv_sbV (p : FVec Ideal Cert.InprojReferenceIdeal.S32768x5912 .f32) (x3 x4 x5 : FVec Ideal S64 .f32) (x6 : FVec Ideal S3x64 .f32)
    (R : Fin 32768) (n : Fin 3072) (h1 : 512 ≤ n.val) (h2 : n.val < 768) :
    Cert.InprojRef.qkv p x3 x4 x5 x6 (ix2 R n) = pn p R (src n) := by
  pointwise [Cert.InprojRef.qkv]
  rw [dif_neg (by omega), dif_neg (by omega), dif_pos (by omega)]
  pointwise [Cert.InprojRef.sbV]
  simp only [pn_eq, ← Nat.add_assoc]
  rw [show 512 + (n.val - 256 - 256) = src n.val by unfold src; split_ifs <;> omega]

theorem qkv_mobaQ (p : FVec Ideal Cert.InprojReferenceIdeal.S32768x5912 .f32) (x3 x4 x5 : FVec Ideal S64 .f32) (x6 : FVec Ideal S3x64 .f32)
    (R : Fin 32768) (n : Fin 3072) (h1 : 768 ≤ n.val) (h2 : n.val < 1024) :
    Cert.InprojRef.qkv p x3 x4 x5 x6 (ix2 R n) = nrmf (pn p R) (src (n.val / 64 * 64)) (src n) * x3 (ix1 ⟨n.val % 64, by omega⟩) * Ideal.ofBits FTy.f32 1040187392#32 := by
  pointwise [Cert.InprojRef.qkv]
  rw [dif_neg (by omega), dif_neg (by omega), dif_neg (by omega), dif_pos (by omega)]
  pointwise [Cert.InprojRef.mobaQ]
  simp only [pn_eq, ← Nat.add_assoc]
  have em : (n.val - 256 - 256 - 256) % 64 = n.val % 64 := by omega
  have eb : 768 + (n.val - 256 - 256 - 256) / 64 * 64 = src (n.val / 64 * 64) := by unfold src; split_ifs <;> omega
  have ec : src (n.val / 64 * 64) + n.val % 64 = src n.val := by
    rw [← src_add _ _ (by omega) (by omega)]; congr 1; omega
  simp only [em, eb, ec, nrmf]

theorem qkv_mobaK (p : FVec Ideal Cert.InprojReferenceIdeal.S32768x5912 .f32) (x3 x4 x5 : FVec Ideal S64 .f32) (x6 : FVec Ideal S3x64 .f32)
    (R : Fin 32768) (n : Fin 3072) (h1 : 1024 ≤ n.val) (h2 : n.val < 1280) :
    Cert.InprojRef.qkv p x3 x4 x5 x6 (ix2 R n) = nrmf (pn p R) (src (n.val / 64 * 64)) (src n) * x4 (ix1 ⟨n.val % 64, by omega⟩) := by
  pointwise [Cert.InprojRef.qkv]
  rw [dif_neg (by omega), dif_neg (by omega), dif_neg (by omega), dif_neg (by omega), dif_pos (by omega)]
  pointwise [Cert.InprojRef.mobaK]
  simp only [pn_eq, ← Nat.add_assoc]
  have em : (n.val - 256 - 256 - 256 - 256) % 64 = n.val % 64 := by omega
  have eb : 1024 + (n.val - 256 - 256 - 256 - 256) / 64 * 64 = src (n.val / 64 * 64) := by unfold src; split_ifs <;> omega
  have ec : src (n.val / 64 * 64) + n.val % 64 = src n.val := by
    rw [← src_add _ _ (by omega) (by omega)]; congr 1; omega
  simp only [em, eb, ec, nrmf]

theorem qkv_mobaV (p : FVec Ideal Cert.InprojReferenceIdeal.S32768x5912 .f32) (x3 x4 x5 : FVec Ideal S64 .f32) (x6 : FVec Ideal S3x64 .f32)
    (R : Fin 32768) (n : Fin 3072) (h1 : 1280 ≤ n.val) (h2 : n.val < 1536) :
    Cert.InprojRef.qkv p x3 x4 x5 x6 (ix2 R n) = pn p R (src n) := by
  pointwise [Cert.InprojRef.qkv]
  rw [dif_neg (by omega), dif_neg (by omega), dif_neg (by omega), dif_neg (by omega), dif_neg (by omega), dif_pos (by omega)]
  pointwise [Cert.InprojRef.mobaV]
  simp only [pn_eq, ← Nat.add_assoc]
  rw [show 1280 + (n.val - 256 - 256 - 256 - 256 - 256) = src n.val by unfold src; split_ifs <;> omega]

theorem qkv_nsaQ (p : FVec Ideal Cert.InprojReferenceIdeal.S32768x5912 .f32) (x3 x4 x5 : FVec Ideal S64 .f32) (x6 : FVec Ideal S3x64 .f32)
    (R : Fin 32768) (n : Fin 3072) (h1 : 1536 ≤ n.val) (h2 : n.val < 2048) :
    Cert.InprojRef.qkv p x3 x4 x5 x6 (ix2 R n) = nrmf (pn p R) (src (n.val / 64 * 64)) (src n) * x5 (ix1 ⟨n.val % 64, by omega⟩) * Ideal.ofBits FTy.f32 1040187392#32 := by
  pointwise [Cert.InprojRef.qkv]
  rw [dif_neg (by omega), dif_neg (by omega), dif_neg (by omega), dif_neg (by omega), dif_neg (by omega), dif_neg (by omega), dif_pos (by omega)]
  pointwise [Cert.InprojRef.nsaQ]
  simp only [pn_eq, ← Nat.add_assoc]
  have em : (n.val - 256 - 256 - 256 - 256 - 256 - 256) % 64 = n.val % 64 := by omega
  have eb : 1536 + (n.val - 256 - 256 - 256 - 256 - 256 - 256) / 64 * 64 = src (n.val / 64 * 64) := by unfold src; split_ifs <;> omega
  have ec : src (n.val / 64 * 64) + n.val % 64 = src n.val := by
    rw [← src_add _ _ (by omega) (by omega)]; congr 1; omega
  simp only [em, eb, ec, nrmf]

theorem qkv_nsaKs (p : FVec Ideal Cert.InprojReferenceIdeal.S32768x5912 .f32) (x3 x4 x5 : FVec Ideal S64 .f32) (x6 : FVec Ideal S3x64 .f32)
    (R : Fin 32768) (n : Fin 3072) (h1 : 2048 ≤ n.val) (h2 : n.val < 2304) :
    Cert.InprojRef.qkv p x3 x4 x5 x6 (ix2 R n) = nrmf (pn p R) (src (n.val / 64 * 64)) (src n) * x6 (ix2 1 ⟨n.val % 64, by omega⟩) := by
  pointwise [Cert.InprojRef.qkv]
  rw [dif_neg (by omega), dif_neg (by omega), dif_neg (by omega), dif_neg (by omega), dif_neg (by omega), dif_neg (by omega), dif_neg (by omega), dif_pos (by omega)]
  pointwise [Cert.InprojRef.nsaKs]
  simp only [pn_eq, ← Nat.add_assoc]
  have em : (n.val - 256 - 256 - 256 - 256 - 256 - 256 - 512) % 64 = n.val % 64 := by omega
  have eb : 2304 + (n.val - 256 - 256 - 256 - 256 - 256 - 256 - 512) / 128 * 64 = src (n.val / 64 * 64) := by unfold src; split_ifs <;> omega
  have ec : src (n.val / 64 * 64) + n.val % 64 = src n.val := by
    rw [← src_add _ _ (by omega) (by omega)]; congr 1; omega
  simp only [em, eb, ec, nrmf]

theorem qkv_nsaVs (p : FVec Ideal Cert.InprojReferenceIdeal.S32768x5912 .f32) (x3 x4 x5 : FVec Ideal S64 .f32) (x6 : FVec Ideal S3x64 .f32)
    (R : Fin 32768) (n : Fin 3072) (h1 : 2304 ≤ n.val) (h2 : n.val < 2560) :
    Cert.InprojRef.qkv p x3 x4 x5 x6 (ix2 R n) = pn p R (src n) := by
  pointwise [Cert.InprojRef.qkv]
  rw [dif_neg (by omega), dif_neg (by omega), dif_neg (by omega), dif_neg (by omega), dif_neg (by omega), dif_neg (by omega), dif_neg (by omega), dif_neg (by omega), dif_pos (by omega)]
  pointwise [Cert.InprojRef.nsaVs]
  simp only [pn_eq, ← Nat.add_assoc]
  have em : (n.val - 256 - 256 - 256 - 256 - 256 - 256 - 512 - 256) % 64 = n.val % 64 := by omega
  rw [em, show 2432 + (n.val - 256 - 256 - 256 - 256 - 256 - 256 - 512 - 256) / 128 * 64 + n.val % 64 = src n.val by unfold src; split_ifs <;> omega]

theorem qkv_nsaKw (p : FVec Ideal Cert.InprojReferenceIdeal.S32768x5912 .f32) (x3 x4 x5 : FVec Ideal S64 .f32) (x6 : FVec Ideal S3x64 .f32)
    (R : Fin 32768) (n : Fin 3072) (h1 : 2560 ≤ n.val) (h2 : n.val < 2816) :
    Cert.InprojRef.qkv p x3 x4 x5 x6 (ix2 R n) = nrmf (pn p R) (src (n.val / 64 * 64)) (src n) * x6 (ix2 2 ⟨n.val % 64, by omega⟩) := by
  pointwise [Cert.InprojRef.qkv]
  rw [dif_neg (by omega), dif_neg (by omega), dif_neg (by omega), dif_neg (by omega), dif_neg (by omega), dif_neg (by omega), dif_neg (by omega), dif_neg (by omega), dif_neg (by omega), dif_pos (by omega)]
  pointwise [Cert.InprojRef.nsaKw]
  simp only [pn_eq, ← Nat.add_assoc]
  have em : (n.val - 256 - 256 - 256 - 256 - 256 - 256 - 512 - 256 - 256) % 64 = n.val % 64 := by omega
  have eb : 2560 + (n.val - 256 - 256 - 256 - 256 - 256 - 256 - 512 - 256 - 256) / 128 * 64 = src (n.val / 64 * 64) := by unfold src; split_ifs <;> omega
  have ec : src (n.val / 64 * 64) + n.val % 64 = src n.val := by
    rw [← src_add _ _ (by omega) (by omega)]; congr 1; omega
  simp only [em, eb, ec, nrmf]

theorem qkv_nsaVw (p : FVec Ideal Cert.InprojReferenceIdeal.S32768x5912 .f32) (x3 x4 x5 : FVec Ideal S64 .f32) (x6 : FVec Ideal S3x64 .f32)
    (R : Fin 32768) (n : Fin 3072) (h1 : 2816 ≤ n.val) (h2 : n.val < 3072) :
    Cert.InprojRef.qkv p x3 x4 x5 x6 (ix2 R n) = pn p R (src n) := by
  pointwise [Cert.InprojRef.qkv]
  rw [dif_neg (by omega), dif_neg (by omega), dif_neg (by omega), dif_neg (by omega), dif_neg (by omega), dif_neg (by omega), dif_neg (by omega), dif_neg (by omega), dif_neg (by omega), dif_neg (by omega)]
  pointwise [Cert.InprojRef.nsaVw]
  simp only [pn_eq, ← Nat.add_assoc]
  have em : (n.val - 256 - 256 - 256 - 256 - 256 - 256 - 512 - 256 - 256 - 256) % 64 = n.val % 64 := by omega
  rw [em, show 2688 + (n.val - 256 - 256 - 256 - 256 - 256 - 256 - 512 - 256 - 256 - 256) / 128 * 64 + n.val % 64 = src n.val by unfold src; split_ifs <;> omega]

theorem f_one : Ideal.ofBits FTy.f32 1065353216#32 = 1 := by
  simp [Ideal.ofBits, Ideal.ieee, -EReal.coe_mul]
  norm_num

theorem gain_sbQ (x3 x4 x5 : FVec Ideal S64 .f32) (x6 : FVec Ideal S3x64 .f32) (n : Fin 3072) (h1 : 0 ≤ n.val) (h2 : n.val < 256) :
    GAIN x3 x4 x5 x6 (ix2 0 n) = Ideal.ofBits FTy.f32 1040187392#32 := by
  rw [GAIN_at]
  have hm : n.val % 128 % 64 = n.val % 64 := by omega
  have hg : gblk x3 x4 x5 x6 (n.val / 128) = gS := by
    have hb : n.val / 128 = 0 ∨ n.val / 128 = 1 := by omega
    rcases hb with hb | hb <;> rw [hb] <;> rfl
  rw [hg]
  pointwise [gS, ones, scales]

theorem gain_mobaQ (x3 x4 x5 : FVec Ideal S64 .f32) (x6 : FVec Ideal S3x64 .f32) (n : Fin 3072) (h1 : 768 ≤ n.val) (h2 : n.val < 1024) :
    GAIN x3 x4 x5 x6 (ix2 0 n) = x3 (ix1 ⟨n.val % 64, by omega⟩) * Ideal.ofBits FTy.f32 1040187392#32 := by
  rw [GAIN_at]
  have hm : n.val % 128 % 64 = n.val % 64 := by omega
  have hg : gblk x3 x4 x5 x6 (n.val / 128) = gMq x3 := by
    have hb : n.val / 128 = 6 ∨ n.val / 128 = 7 := by omega
    rcases hb with hb | hb <;> rw [hb] <;> rfl
  rw [hg]
  pointwise [gMq, ones, scales]
  try simp only [pair_at]
  pointwise [ones, scales]
  simp only [hm, f_one, mul_one, one_mul]

theorem gain_mobaK (x3 x4 x5 : FVec Ideal S64 .f32) (x6 : FVec Ideal S3x64 .f32) (n : Fin 3072) (h1 : 1024 ≤ n.val) (h2 : n.val < 1280) :
    GAIN x3 x4 x5 x6 (ix2 0 n) = x4 (ix1 ⟨n.val % 64, by omega⟩) := by
  rw [GAIN_at]
  have hm : n.val % 128 % 64 = n.val % 64 := by omega
  have hg : gblk x3 x4 x5 x6 (n.val / 128) = gMk x4 := by
    have hb : n.val / 128 = 8 ∨ n.val / 128 = 9 := by omega
    rcases hb with hb | hb <;> rw [hb] <;> rfl
  rw [hg]
  pointwise [gMk, ones, scales]
  try simp only [pair_at]
  pointwise [ones, scales]
  simp only [hm, f_one, mul_one, one_mul]

theorem gain_nsaQ (x3 x4 x5 : FVec Ideal S64 .f32) (x6 : FVec Ideal S3x64 .f32) (n : Fin 3072) (h1 : 1536 ≤ n.val) (h2 : n.val < 2048) :
    GAIN x3 x4 x5 x6 (ix2 0 n) = x5 (ix1 ⟨n.val % 64, by omega⟩) * Ideal.ofBits FTy.f32 1040187392#32 := by
  rw [GAIN_at]
  have hm : n.val % 128 % 64 = n.val % 64 := by omega
  have hg : gblk x3 x4 x5 x6 (n.val / 128) = gNq x5 := by
    have hb : n.val / 128 = 12 ∨ n.val / 128 = 13 ∨ n.val / 128 = 14 ∨ n.val / 128 = 15 := by omega
    rcases hb with hb | hb | hb | hb <;> rw [hb] <;> rfl
  rw [hg]
  pointwise [gNq, ones, scales]
  try simp only [pair_at]
  pointwise [ones, scales]
  simp only [hm, f_one, mul_one, one_mul]

theorem gain_nsaKs (x3 x4 x5 : FVec Ideal S64 .f32) (x6 : FVec Ideal S3x64 .f32) (n : Fin 3072) (h1 : 2048 ≤ n.val) (h2 : n.val < 2304) :
    GAIN x3 x4 x5 x6 (ix2 0 n) = x6 (ix2 1 ⟨n.val % 64, by omega⟩) := by
  rw [GAIN_at]
  have hm : n.val % 128 % 64 = n.val % 64 := by omega
  have hg : gblk x3 x4 x5 x6 (n.val / 128) = gK1 x6 := by
    have hb : n.val / 128 = 16 ∨ n.val / 128 = 17 := by omega
    rcases hb with hb | hb <;> rw [hb] <;> rfl
  rw [hg]
  pointwise [gK1, row1, ones, scales]
  try simp only [pair_at]
  pointwise [row1, ones, scales]
  simp only [hm, f_one, mul_one, one_mul]

theorem gain_nsaKw (x3 x4 x5 : FVec Ideal S64 .f32) (x6 : FVec Ideal S3x64 .f32) (n : Fin 3072) (h1 : 2560 ≤ n.val) (h2 : n.val < 2816) :
    GAIN x3 x4 x5 x6 (ix2 0 n) = x6 (ix2 2 ⟨n.val % 64, by omega⟩) := by
  rw [GAIN_at]
  have hm : n.val % 128 % 64 = n.val % 64 := by omega
  have hg : gblk x3 x4 x5 x6 (n.val / 128) = gK2 x6 := by
    have hb : n.val / 128 = 20 ∨ n.val / 128 = 21 := by omega
    rcases hb with hb | hb <;> rw [hb] <;> rfl
  rw [hg]
  pointwise [gK2, row2, ones, scales]
  try simp only [pair_at]
  pointwise [row2, ones, scales]
  simp only [hm, f_one, mul_one, one_mul]

theorem dot_at' (c : Dev nD) (t : Fin cfg0.N) (r : Fin 512) (n : Fin 3072) :
    ∑ k : Fin 1024, k0_pay1 (F := Ideal) (iblk m c 0 t) (iblk m c 1 t) (ix2 r k) * (iblk m c 2 t : FVec Ideal S1024x3072 .bf16) (ix2 k n)
      = ∑ k : Fin 1024, k0_pay1 (F := Ideal) (View.ld (iblk m c 0 t) r0_0) (View.ld (iblk m c 1 t) r0_1) (ix2 r k) * (iblk m c 2 t : FVec Ideal S1024x3072 .bf16) (ix2 k n) := by
  refine Finset.sum_congr rfl fun k _ => congrArg (· * _) ?_
  pointwise [k0_pay1]

theorem mm3 (c : Dev nD) (t : Fin cfg0.N) (r : Fin 512) (l : Fin 256) :
    k0_pay3 (F := Ideal) (iblk m c 0 t) (iblk m c 1 t) (View.ld (iblk m c 2 t) r0_2) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (l.val)) := by
  pointwise [k0_pay3, k0_pay60]
  exact ((dot_at' m c t r ⟨l.val, by omega⟩).trans (dot_at m c t r ⟨l.val, by omega⟩)).trans (pn_eq _ _ _)

theorem mm3' (c : Dev nD) (t : Fin cfg0.N) (y : S512x256.Idx) :
    k0_pay3 (F := Ideal) (iblk m c 0 t) (iblk m c 1 t) (@View.ld (Elt Ideal) S1024x3072 .bf16 (iblk m c 2 t) r0_2) y
      = pq (Cert.InprojRef.proj (m ((c : Thread nD τ).loc main_arg0)) (m ((c : Thread nD τ).loc main_arg1))
          (m ((c : Thread nD τ).loc main_arg2))) (512 * t.val + (y 0).val) (src ((y 1).val)) := by
  idx_vars y
  exact (mm3 m c t _ _).trans (congrFun (pq_eq _ _) _)

theorem mm6 (c : Dev nD) (t : Fin cfg0.N) (r : Fin 512) (l : Fin 256) :
    k0_pay6 (F := Ideal) (k0_pay60 (iblk m c 0 t) (iblk m c 1 t) (iblk m c 2 t) (iblk m c 3 t) (iblk m c 4 t)) (View.ld (iblk m c 2 t) r0_7) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (256 + l.val)) := by
  pointwise [k0_pay6, k0_pay60]
  exact (dot_at m c t r ⟨256 + l.val, by omega⟩).trans (pn_eq _ _ _)

theorem mm6' (c : Dev nD) (t : Fin cfg0.N) (y : S512x256.Idx) :
    k0_pay6 (F := Ideal) (k0_pay60 (iblk m c 0 t) (iblk m c 1 t) (iblk m c 2 t) (iblk m c 3 t) (iblk m c 4 t)) (@View.ld (Elt Ideal) S1024x3072 .bf16 (iblk m c 2 t) r0_7) y
      = pq (Cert.InprojRef.proj (m ((c : Thread nD τ).loc main_arg0)) (m ((c : Thread nD τ).loc main_arg1))
          (m ((c : Thread nD τ).loc main_arg2))) (512 * t.val + (y 0).val) (src (256 + (y 1).val)) := by
  idx_vars y
  exact (mm6 m c t _ _).trans (congrFun (pq_eq _ _) _)

theorem mm9 (c : Dev nD) (t : Fin cfg0.N) (r : Fin 512) (l : Fin 256) :
    k0_pay9 (F := Ideal) (k0_pay60 (iblk m c 0 t) (iblk m c 1 t) (iblk m c 2 t) (iblk m c 3 t) (iblk m c 4 t)) (View.ld (iblk m c 2 t) r0_10) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (512 + l.val)) := by
  pointwise [k0_pay9, k0_pay60]
  exact (dot_at m c t r ⟨512 + l.val, by omega⟩).trans (pn_eq _ _ _)

theorem mm9' (c : Dev nD) (t : Fin cfg0.N) (y : S512x256.Idx) :
    k0_pay9 (F := Ideal) (k0_pay60 (iblk m c 0 t) (iblk m c 1 t) (iblk m c 2 t) (iblk m c 3 t) (iblk m c 4 t)) (@View.ld (Elt Ideal) S1024x3072 .bf16 (iblk m c 2 t) r0_10) y
      = pq (Cert.InprojRef.proj (m ((c : Thread nD τ).loc main_arg0)) (m ((c : Thread nD τ).loc main_arg1))
          (m ((c : Thread nD τ).loc main_arg2))) (512 * t.val + (y 0).val) (src (512 + (y 1).val)) := by
  idx_vars y
  exact (mm9 m c t _ _).trans (congrFun (pq_eq _ _) _)

theorem mm12 (c : Dev nD) (t : Fin cfg0.N) (r : Fin 512) (l : Fin 256) :
    k0_pay12 (F := Ideal) (k0_pay60 (iblk m c 0 t) (iblk m c 1 t) (iblk m c 2 t) (iblk m c 3 t) (iblk m c 4 t)) (View.ld (iblk m c 2 t) r0_13) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (768 + l.val)) := by
  pointwise [k0_pay12, k0_pay60]
  exact (dot_at m c t r ⟨768 + l.val, by omega⟩).trans (pn_eq _ _ _)

theorem mm12' (c : Dev nD) (t : Fin cfg0.N) (y : S512x256.Idx) :
    k0_pay12 (F := Ideal) (k0_pay60 (iblk m c 0 t) (iblk m c 1 t) (iblk m c 2 t) (iblk m c 3 t) (iblk m c 4 t)) (@View.ld (Elt Ideal) S1024x3072 .bf16 (iblk m c 2 t) r0_13) y
      = pq (Cert.InprojRef.proj (m ((c : Thread nD τ).loc main_arg0)) (m ((c : Thread nD τ).loc main_arg1))
          (m ((c : Thread nD τ).loc main_arg2))) (512 * t.val + (y 0).val) (src (768 + (y 1).val)) := by
  idx_vars y
  exact (mm12 m c t _ _).trans (congrFun (pq_eq _ _) _)

theorem mm18 (c : Dev nD) (t : Fin cfg0.N) (r : Fin 512) (l : Fin 256) :
    k0_pay18 (F := Ideal) (k0_pay60 (iblk m c 0 t) (iblk m c 1 t) (iblk m c 2 t) (iblk m c 3 t) (iblk m c 4 t)) (k0_pay62 (iblk m c 0 t) (iblk m c 1 t) (iblk m c 2 t) (iblk m c 3 t) (iblk m c 4 t)) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (1024 + l.val)) := by
  pointwise [k0_pay18, k0_pay17, k0_pay62, k0_pay60]
  exact (dot_at m c t r ⟨1024 + l.val, by omega⟩).trans (pn_eq _ _ _)

theorem mm18' (c : Dev nD) (t : Fin cfg0.N) (y : S512x256.Idx) :
    k0_pay18 (F := Ideal) (k0_pay60 (iblk m c 0 t) (iblk m c 1 t) (iblk m c 2 t) (iblk m c 3 t) (iblk m c 4 t)) (k0_pay62 (iblk m c 0 t) (iblk m c 1 t) (iblk m c 2 t) (iblk m c 3 t) (iblk m c 4 t)) y
      = pq (Cert.InprojRef.proj (m ((c : Thread nD τ).loc main_arg0)) (m ((c : Thread nD τ).loc main_arg1))
          (m ((c : Thread nD τ).loc main_arg2))) (512 * t.val + (y 0).val) (src (1024 + (y 1).val)) := by
  idx_vars y
  exact (mm18 m c t _ _).trans (congrFun (pq_eq _ _) _)

theorem mm23 (c : Dev nD) (t : Fin cfg0.N) (r : Fin 512) (l : Fin 256) :
    k0_pay23 (F := Ideal) (k0_pay60 (iblk m c 0 t) (iblk m c 1 t) (iblk m c 2 t) (iblk m c 3 t) (iblk m c 4 t)) (View.ld (iblk m c 2 t) r0_23) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (1280 + l.val)) := by
  pointwise [k0_pay23, k0_pay60]
  exact (dot_at m c t r ⟨1280 + l.val, by omega⟩).trans (pn_eq _ _ _)

theorem mm23' (c : Dev nD) (t : Fin cfg0.N) (y : S512x256.Idx) :
    k0_pay23 (F := Ideal) (k0_pay60 (iblk m c 0 t) (iblk m c 1 t) (iblk m c 2 t) (iblk m c 3 t) (iblk m c 4 t)) (@View.ld (Elt Ideal) S1024x3072 .bf16 (iblk m c 2 t) r0_23) y
      = pq (Cert.InprojRef.proj (m ((c : Thread nD τ).loc main_arg0)) (m ((c : Thread nD τ).loc main_arg1))
          (m ((c : Thread nD τ).loc main_arg2))) (512 * t.val + (y 0).val) (src (1280 + (y 1).val)) := by
  idx_vars y
  exact (mm23 m c t _ _).trans (congrFun (pq_eq _ _) _)

theorem mm26 (c : Dev nD) (t : Fin cfg0.N) (r : Fin 512) (l : Fin 256) :
    k0_pay26 (F := Ideal) (k0_pay60 (iblk m c 0 t) (iblk m c 1 t) (iblk m c 2 t) (iblk m c 3 t) (iblk m c 4 t)) (View.ld (iblk m c 2 t) r0_26) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (1536 + l.val)) := by
  pointwise [k0_pay26, k0_pay60]
  exact (dot_at m c t r ⟨1536 + l.val, by omega⟩).trans (pn_eq _ _ _)

theorem mm26' (c : Dev nD) (t : Fin cfg0.N) (y : S512x256.Idx) :
    k0_pay26 (F := Ideal) (k0_pay60 (iblk m c 0 t) (iblk m c 1 t) (iblk m c 2 t) (iblk m c 3 t) (iblk m c 4 t)) (@View.ld (Elt Ideal) S1024x3072 .bf16 (iblk m c 2 t) r0_26) y
      = pq (Cert.InprojRef.proj (m ((c : Thread nD τ).loc main_arg0)) (m ((c : Thread nD τ).loc main_arg1))
          (m ((c : Thread nD τ).loc main_arg2))) (512 * t.val + (y 0).val) (src (1536 + (y 1).val)) := by
  idx_vars y
  exact (mm26 m c t _ _).trans (congrFun (pq_eq _ _) _)

theorem mm33 (c : Dev nD) (t : Fin cfg0.N) (r : Fin 512) (l : Fin 256) :
    k0_pay33 (F := Ideal) (k0_pay60 (iblk m c 0 t) (iblk m c 1 t) (iblk m c 2 t) (iblk m c 3 t) (iblk m c 4 t)) (View.ld (iblk m c 2 t) r0_31) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (1792 + l.val)) := by
  pointwise [k0_pay33, k0_pay60]
  exact (dot_at m c t r ⟨1792 + l.val, by omega⟩).trans (pn_eq _ _ _)

theorem mm33' (c : Dev nD) (t : Fin cfg0.N) (y : S512x256.Idx) :
    k0_pay33 (F := Ideal) (k0_pay60 (iblk m c 0 t) (iblk m c 1 t) (iblk m c 2 t) (iblk m c 3 t) (iblk m c 4 t)) (@View.ld (Elt Ideal) S1024x3072 .bf16 (iblk m c 2 t) r0_31) y
      = pq (Cert.InprojRef.proj (m ((c : Thread nD τ).loc main_arg0)) (m ((c : Thread nD τ).loc main_arg1))
          (m ((c : Thread nD τ).loc main_arg2))) (512 * t.val + (y 0).val) (src (1792 + (y 1).val)) := by
  idx_vars y
  exact (mm33 m c t _ _).trans (congrFun (pq_eq _ _) _)

theorem mm40 (c : Dev nD) (t : Fin cfg0.N) (r : Fin 512) (l : Fin 256) :
    k0_pay40 (F := Ideal) (k0_pay60 (iblk m c 0 t) (iblk m c 1 t) (iblk m c 2 t) (iblk m c 3 t) (iblk m c 4 t)) (View.ld (iblk m c 2 t) r0_36) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (2048 + l.val)) := by
  pointwise [k0_pay40, k0_pay60]
  exact (dot_at m c t r ⟨2048 + l.val, by omega⟩).trans (pn_eq _ _ _)

theorem mm40' (c : Dev nD) (t : Fin cfg0.N) (y : S512x256.Idx) :
    k0_pay40 (F := Ideal) (k0_pay60 (iblk m c 0 t) (iblk m c 1 t) (iblk m c 2 t) (iblk m c 3 t) (iblk m c 4 t)) (@View.ld (Elt Ideal) S1024x3072 .bf16 (iblk m c 2 t) r0_36) y
      = pq (Cert.InprojRef.proj (m ((c : Thread nD τ).loc main_arg0)) (m ((c : Thread nD τ).loc main_arg1))
          (m ((c : Thread nD τ).loc main_arg2))) (512 * t.val + (y 0).val) (src (2048 + (y 1).val)) := by
  idx_vars y
  exact (mm40 m c t _ _).trans (congrFun (pq_eq _ _) _)

theorem mm43 (c : Dev nD) (t : Fin cfg0.N) (r : Fin 512) (l : Fin 256) :
    k0_pay43 (F := Ideal) (k0_pay60 (iblk m c 0 t) (iblk m c 1 t) (iblk m c 2 t) (iblk m c 3 t) (iblk m c 4 t)) (View.ld (iblk m c 2 t) r0_41) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (2304 + l.val)) := by
  pointwise [k0_pay43, k0_pay60]
  exact (dot_at m c t r ⟨2304 + l.val, by omega⟩).trans (pn_eq _ _ _)

theorem mm43' (c : Dev nD) (t : Fin cfg0.N) (y : S512x256.Idx) :
    k0_pay43 (F := Ideal) (k0_pay60 (iblk m c 0 t) (iblk m c 1 t) (iblk m c 2 t) (iblk m c 3 t) (iblk m c 4 t)) (@View.ld (Elt Ideal) S1024x3072 .bf16 (iblk m c 2 t) r0_41) y
      = pq (Cert.InprojRef.proj (m ((c : Thread nD τ).loc main_arg0)) (m ((c : Thread nD τ).loc main_arg1))
          (m ((c : Thread nD τ).loc main_arg2))) (512 * t.val + (y 0).val) (src (2304 + (y 1).val)) := by
  idx_vars y
  exact (mm43 m c t _ _).trans (congrFun (pq_eq _ _) _)

theorem mm46 (c : Dev nD) (t : Fin cfg0.N) (r : Fin 512) (l : Fin 256) :
    k0_pay46 (F := Ideal) (k0_pay60 (iblk m c 0 t) (iblk m c 1 t) (iblk m c 2 t) (iblk m c 3 t) (iblk m c 4 t)) (View.ld (iblk m c 2 t) r0_44) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (2560 + l.val)) := by
  pointwise [k0_pay46, k0_pay60]
  exact (dot_at m c t r ⟨2560 + l.val, by omega⟩).trans (pn_eq _ _ _)

theorem mm46' (c : Dev nD) (t : Fin cfg0.N) (y : S512x256.Idx) :
    k0_pay46 (F := Ideal) (k0_pay60 (iblk m c 0 t) (iblk m c 1 t) (iblk m c 2 t) (iblk m c 3 t) (iblk m c 4 t)) (@View.ld (Elt Ideal) S1024x3072 .bf16 (iblk m c 2 t) r0_44) y
      = pq (Cert.InprojRef.proj (m ((c : Thread nD τ).loc main_arg0)) (m ((c : Thread nD τ).loc main_arg1))
          (m ((c : Thread nD τ).loc main_arg2))) (512 * t.val + (y 0).val) (src (2560 + (y 1).val)) := by
  idx_vars y
  exact (mm46 m c t _ _).trans (congrFun (pq_eq _ _) _)

theorem mm53 (c : Dev nD) (t : Fin cfg0.N) (r : Fin 512) (l : Fin 256) :
    k0_pay53 (F := Ideal) (k0_pay60 (iblk m c 0 t) (iblk m c 1 t) (iblk m c 2 t) (iblk m c 3 t) (iblk m c 4 t)) (View.ld (iblk m c 2 t) r0_49) (ix2 r l)
      = pn (Cert.InprojRef.proj (m ((c : Thread nD τ).loc main_arg0)) (m ((c : Thread nD τ).loc main_arg1))
          (m ((c : Thread nD τ).loc main_arg2))) ⟨512 * t.val + r, by have := t_lt t; omega⟩ (src (2816 + l.val)) := by
  pointwise [k0_pay53, k0_pay60]
  exact (dot_at m c t r ⟨2816 + l.val, by omega⟩).trans (pn_eq _ _ _)

theorem mm53' (c : Dev nD) (t : Fin cfg0.N) (y : S512x256.Idx) :
    k0_pay53 (F := Ideal) (k0_pay60 (iblk m c 0 t) (iblk m c 1 t) (iblk m c 2 t) (iblk m c 3 t) (iblk m c 4 t)) (@View.ld (Elt Ideal) S1024x3072 .bf16 (iblk m c 2 t) r0_49) y
      = pq (Cert.InprojRef.proj (m ((c : Thread nD τ).loc main_arg0)) (m ((c : Thread nD τ).loc main_arg1))
          (m ((c : Thread nD τ).loc main_arg2))) (512 * t.val + (y 0).val) (src (2816 + (y 1).val)) := by
  idx_vars y
  exact (mm53 m c t _ _).trans (congrFun (pq_eq _ _) _)

end Cert.InprojVal
end
-- ==== Proof.InprojQkv.lean ====
/- The input projection's large result: every block of 128 lanes is the reference's. -/
module

public import proofs.«01_k».proof.Proof.InprojBlocks
public import proofs.«01_k».proof.Proof.Gen.InprojReferenceIdeal.Run
public import Idealize.ShloMosaic.Lib.Pipeline.ValueKit
public import Idealize.ShloMosaic.Lib.Claim

@[expose] public section

set_option maxRecDepth 16384

noncomputable section

namespace Cert.InprojVal

open Cert.InprojIdeal Cert.InprojIdeal.Gen Idealize.ShloMosaic Idealize.ShloMosaic.TcCoe Idealize.SL.Sem

variable (m : (ℓ : Loc nD τ sig) → Buf (Elt Ideal) ℓ)

set_option maxHeartbeats 8000000 in
theorem qkv_point (c : Dev nD) (t : Fin cfg0.N) (r : Fin 512) (n : Fin 3072) :
    out0_5 (F := Ideal) (iblk m c 0 t) (iblk m c 1 t) (iblk m c 2 t) (iblk m c 3 t) (iblk m c 4 t) (ix2 r n)
      = Cert.InprojRef.qkv (Cert.InprojRef.proj (m ((c : Thread nD τ).loc main_arg0)) (m ((c : Thread nD τ).loc main_arg1))
          (m ((c : Thread nD τ).loc main_arg2))) (m ((c : Thread nD τ).loc main_arg3)) (m ((c : Thread nD τ).loc main_arg4))
           (m ((c : Thread nD τ).loc main_arg5)) (m ((c : Thread nD τ).loc main_arg6))
           (ix2 ⟨512 * t.val + r, by have := t_lt t; omega⟩ n) := by
  have h3 := mm3' m c t
  have h6 := mm6' m c t
  have h9 := mm9' m c t
  have h12 := mm12' m c t
  have h18 := mm18' m c t
  have h23 := mm23' m c t
  have h26 := mm26' m c t
  have h33 := mm33' m c t
  have h40 := mm40' m c t
  have h43 := mm43' m c t
  have h46 := mm46' m c t
  have h53 := mm53' m c t
  generalize Cert.InprojRef.proj _ _ _ = p at h3 h6 h9 h12 h18 h23 h26 h33 h40 h43 h46 h53 ⊢
  frame_out
  canon_tiles x h
  case piece0 =>
    idx_vars x
    obtain rfl : r = x0 := Fin.ext h0
    obtain ⟨n, hn⟩ := n
    have h1 : n = 2944 + x1.val := h1
    subst h1
    rw [qkv_nsaVw _ _ _ _ _ _ _ (by dsimp only; omega) (by dsimp only; omega)]
    simp only [pq_eq]
    pointwise [h53, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
  case piece1 =>
    idx_vars x
    obtain rfl : r = x0 := Fin.ext h0
    obtain ⟨n, hn⟩ := n
    have h1 : n = 2816 + x1.val := h1
    subst h1
    rw [qkv_nsaVw _ _ _ _ _ _ _ (by dsimp only; omega) (by dsimp only; omega)]
    simp only [pq_eq]
    pointwise [h53, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
  case piece2 =>
    idx_vars x
    obtain rfl : r = x0 := Fin.ext h0
    obtain ⟨n, hn⟩ := n
    have h1 : n = 2688 + x1.val := h1
    subst h1
    rw [qkv_nsaKw _ _ _ _ _ _ _ (by dsimp only; omega) (by dsimp only; omega)]
    simp only [pq_eq]
    pointwise [h46, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (2560 + 128) (by decide)]
    rw [gain_nsaKw _ _ _ _ _ (by dsimp only; omega) (by dsimp only; omega)]
  case piece3 =>
    idx_vars x
    obtain rfl : r = x0 := Fin.ext h0
    obtain ⟨n, hn⟩ := n
    have h1 : n = 2560 + x1.val := h1
    subst h1
    rw [qkv_nsaKw _ _ _ _ _ _ _ (by dsimp only; omega) (by dsimp only; omega)]
    simp only [pq_eq]
    pointwise [h46, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (2560) (by decide)]
    rw [gain_nsaKw _ _ _ _ _ (by dsimp only; omega) (by dsimp only; omega)]
  case piece4 =>
    idx_vars x
    obtain rfl : r = x0 := Fin.ext h0
    obtain ⟨n, hn⟩ := n
    have h1 : n = 2432 + x1.val := h1
    subst h1
    rw [qkv_nsaVs _ _ _ _ _ _ _ (by dsimp only; omega) (by dsimp only; omega)]
    simp only [pq_eq]
    pointwise [h43, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
  case piece5 =>
    idx_vars x
    obtain rfl : r = x0 := Fin.ext h0
    obtain ⟨n, hn⟩ := n
    have h1 : n = 2304 + x1.val := h1
    subst h1
    rw [qkv_nsaVs _ _ _ _ _ _ _ (by dsimp only; omega) (by dsimp only; omega)]
    simp only [pq_eq]
    pointwise [h43, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
  case piece6 =>
    idx_vars x
    obtain rfl : r = x0 := Fin.ext h0
    obtain ⟨n, hn⟩ := n
    have h1 : n = 2176 + x1.val := h1
    subst h1
    rw [qkv_nsaKs _ _ _ _ _ _ _ (by dsimp only; omega) (by dsimp only; omega)]
    simp only [pq_eq]
    pointwise [h40, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (2048 + 128) (by decide)]
    rw [gain_nsaKs _ _ _ _ _ (by dsimp only; omega) (by dsimp only; omega)]
  case piece7 =>
    idx_vars x
    obtain rfl : r = x0 := Fin.ext h0
    obtain ⟨n, hn⟩ := n
    have h1 : n = 2048 + x1.val := h1
    subst h1
    rw [qkv_nsaKs _ _ _ _ _ _ _ (by dsimp only; omega) (by dsimp only; omega)]
    simp only [pq_eq]
    pointwise [h40, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (2048) (by decide)]
    rw [gain_nsaKs _ _ _ _ _ (by dsimp only; omega) (by dsimp only; omega)]
  case piece8 =>
    idx_vars x
    obtain rfl : r = x0 := Fin.ext h0
    obtain ⟨n, hn⟩ := n
    have h1 : n = 1920 + x1.val := h1
    subst h1
    rw [qkv_nsaQ _ _ _ _ _ _ _ (by dsimp only; omega) (by dsimp only; omega)]
    simp only [pq_eq]
    pointwise [h33, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1792 + 128) (by decide)]
    rw [gain_nsaQ _ _ _ _ _ (by dsimp only; omega) (by dsimp only; omega)]
    rw [← mul_assoc]
  case piece9 =>
    idx_vars x
    obtain rfl : r = x0 := Fin.ext h0
    obtain ⟨n, hn⟩ := n
    have h1 : n = 1792 + x1.val := h1
    subst h1
    rw [qkv_nsaQ _ _ _ _ _ _ _ (by dsimp only; omega) (by dsimp only; omega)]
    simp only [pq_eq]
    pointwise [h33, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1792) (by decide)]
    rw [gain_nsaQ _ _ _ _ _ (by dsimp only; omega) (by dsimp only; omega)]
    rw [← mul_assoc]
  case piece10 =>
    idx_vars x
    obtain rfl : r = x0 := Fin.ext h0
    obtain ⟨n, hn⟩ := n
    have h1 : n = 1664 + x1.val := h1
    subst h1
    rw [qkv_nsaQ _ _ _ _ _ _ _ (by dsimp only; omega) (by dsimp only; omega)]
    simp only [pq_eq]
    pointwise [h26, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1536 + 128) (by decide)]
    rw [gain_nsaQ _ _ _ _ _ (by dsimp only; omega) (by dsimp only; omega)]
    rw [← mul_assoc]
  case piece11 =>
    idx_vars x
    obtain rfl : r = x0 := Fin.ext h0
    obtain ⟨n, hn⟩ := n
    have h1 : n = 1536 + x1.val := h1
    subst h1
    rw [qkv_nsaQ _ _ _ _ _ _ _ (by dsimp only; omega) (by dsimp only; omega)]
    simp only [pq_eq]
    pointwise [h26, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1536) (by decide)]
    rw [gain_nsaQ _ _ _ _ _ (by dsimp only; omega) (by dsimp only; omega)]
    rw [← mul_assoc]
  case piece12 =>
    idx_vars x
    obtain rfl : r = x0 := Fin.ext h0
    obtain ⟨n, hn⟩ := n
    have h1 : n = 1408 + x1.val := h1
    subst h1
    rw [qkv_mobaV _ _ _ _ _ _ _ (by dsimp only; omega) (by dsimp only; omega)]
    simp only [pq_eq]
    pointwise [h23, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
  case piece13 =>
    idx_vars x
    obtain rfl : r = x0 := Fin.ext h0
    obtain ⟨n, hn⟩ := n
    have h1 : n = 1280 + x1.val := h1
    subst h1
    rw [qkv_mobaV _ _ _ _ _ _ _ (by dsimp only; omega) (by dsimp only; omega)]
    simp only [pq_eq]
    pointwise [h23, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
  case piece14 =>
    idx_vars x
    obtain rfl : r = x0 := Fin.ext h0
    obtain ⟨n, hn⟩ := n
    have h1 : n = 1152 + x1.val := h1
    subst h1
    rw [qkv_mobaK _ _ _ _ _ _ _ (by dsimp only; omega) (by dsimp only; omega)]
    simp only [pq_eq]
    pointwise [h18, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1024 + 128) (by decide)]
    rw [gain_mobaK _ _ _ _ _ (by dsimp only; omega) (by dsimp only; omega)]
  case piece15 =>
    idx_vars x
    obtain rfl : r = x0 := Fin.ext h0
    obtain ⟨n, hn⟩ := n
    have h1 : n = 1024 + x1.val := h1
    subst h1
    rw [qkv_mobaK _ _ _ _ _ _ _ (by dsimp only; omega) (by dsimp only; omega)]
    simp only [pq_eq]
    pointwise [h18, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (1024) (by decide)]
    rw [gain_mobaK _ _ _ _ _ (by dsimp only; omega) (by dsimp only; omega)]
  case piece16 =>
    idx_vars x
    obtain rfl : r = x0 := Fin.ext h0
    obtain ⟨n, hn⟩ := n
    have h1 : n = 896 + x1.val := h1
    subst h1
    rw [qkv_mobaQ _ _ _ _ _ _ _ (by dsimp only; omega) (by dsimp only; omega)]
    simp only [pq_eq]
    pointwise [h12, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (768 + 128) (by decide)]
    rw [gain_mobaQ _ _ _ _ _ (by dsimp only; omega) (by dsimp only; omega)]
    rw [← mul_assoc]
  case piece17 =>
    idx_vars x
    obtain rfl : r = x0 := Fin.ext h0
    obtain ⟨n, hn⟩ := n
    have h1 : n = 768 + x1.val := h1
    subst h1
    rw [qkv_mobaQ _ _ _ _ _ _ _ (by dsimp only; omega) (by dsimp only; omega)]
    simp only [pq_eq]
    pointwise [h12, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [norm_at (pq p _) (768) (by decide)]
    rw [gain_mobaQ _ _ _ _ _ (by dsimp only; omega) (by dsimp only; omega)]
    rw [← mul_assoc]
  case piece18 =>
    idx_vars x
    obtain rfl : r = x0 := Fin.ext h0
    obtain ⟨n, hn⟩ := n
    have h1 : n = 640 + x1.val := h1
    subst h1
    rw [qkv_sbV _ _ _ _ _ _ _ (by dsimp only; omega) (by dsimp only; omega)]
    simp only [pq_eq]
    pointwise [h9, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
  case piece19 =>
    idx_vars x
    obtain rfl : r = x0 := Fin.ext h0
    obtain ⟨n, hn⟩ := n
    have h1 : n = 512 + x1.val := h1
    subst h1
    rw [qkv_sbV _ _ _ _ _ _ _ (by dsimp only; omega) (by dsimp only; omega)]
    simp only [pq_eq]
    pointwise [h9, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
  case piece20 =>
    idx_vars x
    obtain rfl : r = x0 := Fin.ext h0
    obtain ⟨n, hn⟩ := n
    have h1 : n = 384 + x1.val := h1
    subst h1
    rw [qkv_sbK _ _ _ _ _ _ _ (by dsimp only; omega) (by dsimp only; omega)]
    simp only [pq_eq]
    pointwise [h6, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
  case piece21 =>
    idx_vars x
    obtain rfl : r = x0 := Fin.ext h0
    obtain ⟨n, hn⟩ := n
    have h1 : n = 256 + x1.val := h1
    subst h1
    rw [qkv_sbK _ _ _ _ _ _ _ (by dsimp only; omega) (by dsimp only; omega)]
    simp only [pq_eq]
    pointwise [h6, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
  case piece22 =>
    idx_vars x
    obtain rfl : r = x0 := Fin.ext h0
    obtain ⟨n, hn⟩ := n
    have h1 : n = 128 + x1.val := h1
    subst h1
    rw [qkv_sbQ _ _ _ _ _ _ _ (by dsimp only; omega) (by dsimp only; omega)]
    simp only [pq_eq]
    pointwise [h3, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [gain_sbQ _ _ _ _ _ (by dsimp only; omega) (by dsimp only; omega)]
  case piece23 =>
    idx_vars x
    obtain rfl : r = x0 := Fin.ext h0
    obtain ⟨n, hn⟩ := n
    have h1 : n = x1.val := h1
    subst h1
    rw [qkv_sbQ _ _ _ _ _ _ _ (by dsimp only; omega) (by dsimp only; omega)]
    simp only [pq_eq]
    pointwise [h3, k0_pay2, k0_pay4, k0_pay5, k0_pay7, k0_pay8, k0_pay10, k0_pay11, k0_pay13, k0_pay14, k0_pay15, k0_pay16, k0_pay19, k0_pay20, k0_pay21, k0_pay22, k0_pay24, k0_pay25, k0_pay27, k0_pay28, k0_pay29, k0_pay30, k0_pay31, k0_pay32, k0_pay34, k0_pay35, k0_pay36, k0_pay37, k0_pay38, k0_pay39, k0_pay41, k0_pay42, k0_pay44, k0_pay45, k0_pay47, k0_pay48, k0_pay49, k0_pay50, k0_pay51, k0_pay52, k0_pay54, k0_pay55, k0_pay61]
    simp only [b4, ← Nat.add_assoc]
    rw [gain_sbQ _ _ _ _ _ (by dsimp only; omega) (by dsimp only; omega)]

theorem final_qkv (c : Dev nD) : (dats m 0 c).arrAt 5 cfg0.N = Cert.InprojRef.qkv (Cert.InprojRef.proj (m ((c : Thread nD τ).loc main_arg0))
    (m ((c : Thread nD τ).loc main_arg1)) (m ((c : Thread nD τ).loc main_arg2))) (m ((c : Thread nD τ).loc main_arg3)) (m ((c : Thread nD τ).loc main_arg4))
    (m ((c : Thread nD τ).loc main_arg5)) (m ((c : Thread nD τ).loc main_arg6)) := by
  refine (dats m 0 c).arrAt_eq_of_covers 5 _ (by decide +kernel) fun t hf y => ?_
  blk_simp
  rw [after0_5]
  idx_vars y
  refine (qkv_point m c t _ _).trans ?_
  congr 1
  blk_ext <;> simp [idx t] <;> omega

end Cert.InprojVal
end
-- ==== Proof.CmpHost.lean ====
/- The operands the host lines of the compression prepare, read index by index: the rows of 16 tokens, the
   positions, the first weight with every group's columns zero outside the group's lanes, the second weight
   and the gain beside their copies. -/
module

public import proofs.«01_k».proof.Proof.Gen.CompressIdeal.Value
public import Idealize.ShloMosaic.Lib.Pipeline.ValueKit
public import Idealize.ShloMosaic.Lib.Routing.OpsSet
public import Idealize.ShloMosaic.Lib.Routing.OpsPair
public import Idealize.ShloMosaic.Lib.Claim

@[expose] public section

set_option maxRecDepth 16384

noncomputable section

namespace Cert.CmpVal

open Cert.CompressIdeal Cert.CompressIdeal.Gen Idealize.ShloMosaic Idealize.ShloMosaic.TcCoe Idealize.SL.Sem
open Idealize.ShloMosaic.Pipeline (Dat)

/-- The positions of the keys, every row spread over both groups' lanes. -/
def POSk (x2 : FVec Ideal S2x32x64 .f32) : FVec Ideal S2x2048 .f32 :=
  shapeCast S2x2048 (broadcastInDim S2x16x2x64 ![0, 1, 2, 3] bcast_S2x16x1x64_S2x16x2x64_0_1_2_3 (shapeCast S2x16x1x64 (shapeCast S32x64 (extractStridedSlice S1x32x64 ![0, 0, 0] x2 slices_S2x32x64_S1x32x64_0_0_0) shapeCasts_S1x32x64_S32x64) shapeCasts_S32x64_S2x16x1x64)) shapeCasts_S2x16x2x64_S2x2048
/-- The same of the values. -/
def POSv (x2 : FVec Ideal S2x32x64 .f32) : FVec Ideal S2x2048 .f32 :=
  shapeCast S2x2048 (broadcastInDim S2x16x2x64 ![0, 1, 2, 3] bcast_S2x16x1x64_S2x16x2x64_0_1_2_3 (shapeCast S2x16x1x64 (shapeCast S32x64 (extractStridedSlice S1x32x64 ![1, 0, 0] x2 slices_S2x32x64_S1x32x64_1_0_0) shapeCasts_S1x32x64_S32x64) shapeCasts_S32x64_S2x16x1x64)) shapeCasts_S2x16x2x64_S2x2048
/-- All four rows. -/
def POS (x2 : FVec Ideal S2x32x64 .f32) : FVec Ideal S4x2048 .f32 :=
  concatenate S4x2048 0 [⟨S2x2048, (POSk x2 : (⟨S2x2048, .f32⟩ : BufTy).Contents (Elt Ideal))⟩, ⟨S2x2048, (POSv x2 : (⟨S2x2048, .f32⟩ : BufTy).Contents (Elt Ideal))⟩] concatenates_S2x2048_S2x2048_S4x2048_d0
/-- The second weights, each beside its copy. -/
def W2 (x4 : FVec Ideal S2x256x64 .f32) : FVec Ideal S2x256x128 .bf16 :=
  truncf .bf16 (concatenate S2x256x128 2 [⟨S2x256x64, (x4 : (⟨S2x256x64, .f32⟩ : BufTy).Contents (Elt Ideal))⟩, ⟨S2x256x64, (x4 : (⟨S2x256x64, .f32⟩ : BufTy).Contents (Elt Ideal))⟩] concatenates_S2x256x64_S2x256x64_S2x256x128_d2 : (⟨S2x256x128, .f32⟩ : BufTy).Contents (Elt Ideal)) bitsLt_bf16_f32
/-- The first row of gains. -/
def gain (x5 : FVec Ideal S3x64 .f32) : FVec Ideal S64 .f32 := shapeCast S64 (extractStridedSlice S1x64 ![0, 0] x5 slices_S3x64_S1x64_0_0) shapeCasts_S1x64_S64
/-- That row beside its copy. -/
def KN (x5 : FVec Ideal S3x64 .f32) : FVec Ideal S1x128 .f32 :=
  shapeCast S1x128 (mulf (concatenate S128 0 [⟨S64, (gain x5 : (⟨S64, .f32⟩ : BufTy).Contents (Elt Ideal))⟩, ⟨S64, (gain x5 : (⟨S64, .f32⟩ : BufTy).Contents (Elt Ideal))⟩] concatenates_S64_S64_S128_d0 : (⟨S128, .f32⟩ : BufTy).Contents (Elt Ideal)) (broadcastInDim S128 ![] bcast_S_S128 (constant S_ .f32 0x3F800000#32))) shapeCasts_S128_S1x128

/-- A first weight by half, token, lane and column. -/
def W1k (x3 : FVec Ideal S2x2048x256 .f32) : FVec Ideal S2x16x64x256 .f32 :=
  shapeCast S2x16x64x256 (shapeCast S2048x256 (extractStridedSlice S1x2048x256 ![0, 0, 0] x3 slices_S2x2048x256_S1x2048x256_0_0_0) shapeCasts_S1x2048x256_S2048x256) shapeCasts_S2048x256_S2x16x64x256
/-- The same of the values. -/
def W1v (x3 : FVec Ideal S2x2048x256 .f32) : FVec Ideal S2x16x64x256 .f32 :=
  shapeCast S2x16x64x256 (shapeCast S2048x256 (extractStridedSlice S1x2048x256 ![1, 0, 0] x3 slices_S2x2048x256_S1x2048x256_1_0_0) shapeCasts_S1x2048x256_S2048x256) shapeCasts_S2048x256_S2x16x64x256
/-- The first half. -/
def half0 (w : FVec Ideal S2x16x64x256 .f32) : FVec Ideal S16x64x256 .f32 :=
  shapeCast S16x64x256 (extractStridedSlice S1x16x64x256 ![0, 0, 0, 0] w slices_S2x16x64x256_S1x16x64x256_0_0_0_0) shapeCasts_S1x16x64x256_S16x64x256
/-- The second half. -/
def half1 (w : FVec Ideal S2x16x64x256 .f32) : FVec Ideal S16x64x256 .f32 :=
  shapeCast S16x64x256 (extractStridedSlice S1x16x64x256 ![1, 0, 0, 0] w slices_S2x16x64x256_S1x16x64x256_1_0_0_0) shapeCasts_S1x16x64x256_S16x64x256
/-- A half's rows at one group's lanes, zero at the other's. -/
def put (k : BitVec 32) (u : FVec Ideal S16x64x256 .f32) : FVec Ideal S2048x256 .f32 :=
  shapeCast S2048x256 (Host.scatter scatter_S16x2x64x256_S1_S16x64x256_012_1_1_0 (fun _ b => b)
    (broadcastInDim S16x2x64x256 ![] bcast_S_S16x2x64x256 (constant (F := Ideal) S_ .f32 0x00000000#32)) (broadcastInDim S1 ![] bcast_S_S1 (constantI S_ 32 k)) u) shapeCasts_S16x2x64x256_S2048x256
/-- The four pieces side by side. -/
def WW (w : FVec Ideal S2x16x64x256 .f32) : FVec Ideal S2048x1024 .bf16 :=
  truncf .bf16 (concatenate S2048x1024 1 [⟨S2048x256, (put 0#32 (half0 w) : (⟨S2048x256, .f32⟩ : BufTy).Contents (Elt Ideal))⟩, ⟨S2048x256, (put 1#32 (half0 w) : (⟨S2048x256, .f32⟩ : BufTy).Contents (Elt Ideal))⟩,
    ⟨S2048x256, (put 0#32 (half1 w) : (⟨S2048x256, .f32⟩ : BufTy).Contents (Elt Ideal))⟩, ⟨S2048x256, (put 1#32 (half1 w) : (⟨S2048x256, .f32⟩ : BufTy).Contents (Elt Ideal))⟩]
    concatenates_S2048x256_S2048x256_S2048x256_S2048x256_S2048x1024_d1 : (⟨S2048x1024, .f32⟩ : BufTy).Contents (Elt Ideal)) bitsLt_bf16_f32

variable (m : (ℓ : Loc nD τ sig) → Buf (Elt Ideal) ℓ)

set_option maxHeartbeats 8000000 in
theorem V_pos (c : Dev nD) : V m c main_v10 = POS (m ((c : Thread nD τ).loc main_arg2)) := by
  unfold V
  simp only [hostOps0, List.flatten_cons, List.flatten_nil, List.append_nil, List.cons_append, List.nil_append]
  after_results_simp <;> rfl

set_option maxHeartbeats 8000000 in
theorem V_w2 (c : Dev nD) : V m c main_v12 = W2 (m ((c : Thread nD τ).loc main_arg4)) := by
  unfold V
  simp only [hostOps0, List.flatten_cons, List.flatten_nil, List.append_nil, List.cons_append, List.nil_append]
  after_results_simp <;> rfl

set_option maxHeartbeats 8000000 in
theorem V_kn (c : Dev nD) : V m c main_v18 = KN (m ((c : Thread nD τ).loc main_arg5)) := by
  unfold V
  simp only [hostOps0, List.flatten_cons, List.flatten_nil, List.append_nil, List.cons_append, List.nil_append]
  after_results_simp <;> rfl

set_option maxHeartbeats 8000000 in
theorem V_rk (c : Dev nD) : V m c main_v19 = shapeCast S4x512x2048 (m ((c : Thread nD τ).loc main_arg0)) shapeCasts_S32768x128_S4x512x2048 := by
  unfold V
  simp only [hostOps0, List.flatten_cons, List.flatten_nil, List.append_nil, List.cons_append, List.nil_append]
  after_results_simp <;> rfl

set_option maxHeartbeats 8000000 in
theorem V_rv (c : Dev nD) : V m c main_v20 = shapeCast S4x512x2048 (m ((c : Thread nD τ).loc main_arg1)) shapeCasts_S32768x128_S4x512x2048 := by
  unfold V
  simp only [hostOps0, List.flatten_cons, List.flatten_nil, List.append_nil, List.cons_append, List.nil_append]
  after_results_simp <;> rfl

/-- The four pieces one by one. -/
theorem WW_of (w : FVec Ideal S2x16x64x256 .f32) (a b c d : FVec Ideal S2048x256 .f32) (ha : a = put 0#32 (half0 w)) (hb : b = put 1#32 (half0 w))
    (hc : c = put 0#32 (half1 w)) (hd : d = put 1#32 (half1 w)) :
    (truncf .bf16 (concatenate S2048x1024 1 [⟨S2048x256, (a : (⟨S2048x256, .f32⟩ : BufTy).Contents (Elt Ideal))⟩, ⟨S2048x256, (b : (⟨S2048x256, .f32⟩ : BufTy).Contents (Elt Ideal))⟩,
      ⟨S2048x256, (c : (⟨S2048x256, .f32⟩ : BufTy).Contents (Elt Ideal))⟩, ⟨S2048x256, (d : (⟨S2048x256, .f32⟩ : BufTy).Contents (Elt Ideal))⟩]
      concatenates_S2048x256_S2048x256_S2048x256_S2048x256_S2048x1024_d1 : (⟨S2048x1024, .f32⟩ : BufTy).Contents (Elt Ideal)) bitsLt_bf16_f32 : FVec Ideal S2048x1024 .bf16) = WW w := by
  subst ha hb hc hd
  rfl

set_option maxHeartbeats 8000000 in
theorem V_wk (c : Dev nD) : V m c main_v49 = WW (W1k (m ((c : Thread nD τ).loc main_arg3))) := by
  unfold V
  simp only [hostOps0, List.flatten_cons, List.flatten_nil, List.append_nil, List.cons_append, List.nil_append]
  after_results_simp
  refine WW_of _ _ _ _ _ ?_ ?_ ?_ ?_ <;> (dsimp only [Matrix.cons_val]; after_results_simp <;> rfl)

set_option maxHeartbeats 8000000 in
theorem V_wv (c : Dev nD) : V m c main_v78 = WW (W1v (m ((c : Thread nD τ).loc main_arg3))) := by
  unfold V
  simp only [hostOps0, List.flatten_cons, List.flatten_nil, List.append_nil, List.cons_append, List.nil_append]
  after_results_simp
  refine WW_of _ _ _ _ _ ?_ ?_ ?_ ?_ <;> (dsimp only [Matrix.cons_val]; after_results_simp <;> rfl)

/-- Where a row lands: in its token, lane and column, at the group the index names. -/
theorem lands (k : BitVec 32) (g : Fin 2) (hg : k.toInt = (g.val : Int)) (j : S16x64x256.Idx) (τ : Fin 16) (e : Fin 2) (d : Fin 64) (h : Fin 256) :
    scatter_S16x2x64x256_S1_S16x64x256_012_1_1_0.resultIdx? j (broadcastInDim S1 ![] bcast_S_S1 (constantI S_ 32 k)) = some (ix4 τ e d h)
      ↔ j = ix3 τ d h ∧ g = e := by
  have w0 : scatter_S16x2x64x256_S1_S16x64x256_012_1_1_0.window j 0 = (j 0).val := rfl
  have w1 : scatter_S16x2x64x256_S1_S16x64x256_012_1_1_0.window j 1 = 0 := rfl
  have w2 : scatter_S16x2x64x256_S1_S16x64x256_012_1_1_0.window j 2 = (j 1).val := rfl
  have w3 : scatter_S16x2x64x256_S1_S16x64x256_012_1_1_0.window j 3 = (j 2).val := rfl
  have s0 : scatter_S16x2x64x256_S1_S16x64x256_012_1_1_0.start j (broadcastInDim S1 ![] bcast_S_S1 (constantI S_ 32 k)) 0 = 0 := rfl
  have s1 : scatter_S16x2x64x256_S1_S16x64x256_012_1_1_0.start j (broadcastInDim S1 ![] bcast_S_S1 (constantI S_ 32 k)) 1 = (g.val : Int) := hg
  have s2 : scatter_S16x2x64x256_S1_S16x64x256_012_1_1_0.start j (broadcastInDim S1 ![] bcast_S_S1 (constantI S_ 32 k)) 2 = 0 := rfl
  have s3 : scatter_S16x2x64x256_S1_S16x64x256_012_1_1_0.start j (broadcastInDim S1 ![] bcast_S_S1 (constantI S_ 32 k)) 3 = 0 := rfl
  rw [Routing.resultIdx?_eq_some]
  constructor
  · intro q
    have q0 := q 0
    have q1 := q 1
    have q2 := q 2
    have q3 := q 3
    rw [w0, s0] at q0
    rw [w1, s1] at q1
    rw [w2, s2] at q2
    rw [w3, s3] at q3
    change (0 : Int) + ((j 0).val : Int) = (τ.val : Int) at q0
    change (g.val : Int) + ((0 : ℕ) : Int) = (e.val : Int) at q1
    change (0 : Int) + ((j 1).val : Int) = (d.val : Int) at q2
    change (0 : Int) + ((j 2).val : Int) = (h.val : Int) at q3
    refine ⟨?_, Fin.ext (by omega)⟩
    funext a
    match a with
    | ⟨0, _⟩ => exact Fin.ext (by change (j 0).val = τ.val; omega)
    | ⟨1, _⟩ => exact Fin.ext (by change (j 1).val = d.val; omega)
    | ⟨2, _⟩ => exact Fin.ext (by change (j 2).val = h.val; omega)
  · rintro ⟨rfl, rfl⟩ a
    match a with
    | ⟨0, _⟩ => exact (congrArg₂ (fun (a : Int) (b : ℕ) => a + (b : Int)) s0 w0).trans (zero_add _)
    | ⟨1, _⟩ => exact (congrArg₂ (fun (a : Int) (b : ℕ) => a + (b : Int)) s1 w1).trans (add_zero _)
    | ⟨2, _⟩ => exact (congrArg₂ (fun (a : Int) (b : ℕ) => a + (b : Int)) s2 w2).trans (zero_add _)
    | ⟨3, _⟩ => exact (congrArg₂ (fun (a : Int) (b : ℕ) => a + (b : Int)) s3 w3).trans (zero_add _)

theorem placed (k : BitVec 32) (g : Fin 2) (hg : k.toInt = (g.val : Int)) (x0 : FVec Ideal S16x2x64x256 .f32) (u : FVec Ideal S16x64x256 .f32)
    (τ : Fin 16) (e : Fin 2) (d : Fin 64) (h : Fin 256) :
    Host.scatter scatter_S16x2x64x256_S1_S16x64x256_012_1_1_0 (fun _ b => b) x0 (broadcastInDim S1 ![] bcast_S_S1 (constantI S_ 32 k)) u (ix4 τ e d h)
      = if g = e then u (ix3 τ d h) else x0 (ix4 τ e d h) := by
  split_ifs with he
  · exact Routing.scatter_set_hit _ x0 _ u _ _ (fun j hj => congrArg u ((lands k g hg j τ e d h).1 hj).1) (ix3 τ d h) ((lands k g hg _ τ e d h).2 ⟨rfl, he⟩)
  · exact Routing.scatter_set_miss _ x0 _ u _ fun j hj => he ((lands k g hg j τ e d h).1 hj).2

theorem zero_at : FloatOps.ofBits (F := Ideal) .f32 0x00000000#32 = (0 : EReal) := by
  show Ideal.ofBits FTy.f32 0x00000000#32 = 0
  simp [Ideal.ofBits, Ideal.ieee]

theorem cast4 (y : FVec Ideal S16x2x64x256 .f32) (j : Fin 2048) (c : Fin 256) :
    (shapeCast S2048x256 y shapeCasts_S16x2x64x256_S2048x256 : FVec Ideal S2048x256 .f32) (ix2 j c)
      = y (ix4 ⟨j.val / 128, by omega⟩ ⟨j.val / 64 % 2, by omega⟩ ⟨j.val % 64, by omega⟩ c) := by
  pointwise []
  blk_ext

theorem put_at (k : BitVec 32) (g : Fin 2) (hg : k.toInt = (g.val : Int)) (u : FVec Ideal S16x64x256 .f32) (j : Fin 2048) (c : Fin 256) :
    put k u (ix2 j c) = if g.val = j.val / 64 % 2 then u (ix3 ⟨j.val / 128, by omega⟩ ⟨j.val % 64, by omega⟩ c) else 0 := by
  unfold put
  refine (cast4 _ j c).trans ((placed k g hg _ u _ _ _ _).trans ?_)
  refine if_congr (by rw [Fin.ext_iff]) rfl ?_
  exact zero_at

theorem half0_at (w : FVec Ideal S2x16x64x256 .f32) (τ : Fin 16) (d : Fin 64) (h : Fin 256) : half0 w (ix3 τ d h) = w (ix4 0 τ d h) := by
  pointwise [half0]

theorem half1_at (w : FVec Ideal S2x16x64x256 .f32) (τ : Fin 16) (d : Fin 64) (h : Fin 256) : half1 w (ix3 τ d h) = w (ix4 1 τ d h) := by
  pointwise [half1]

theorem W1k_at (x3 : FVec Ideal S2x2048x256 .f32) (p : Fin 2) (τ : Fin 16) (d : Fin 64) (h : Fin 256) :
    W1k x3 (ix4 p τ d h) = x3 (ix3 0 ⟨1024 * p.val + 64 * τ.val + d.val, by omega⟩ h) := by
  pointwise [W1k]
  blk_ext

theorem W1v_at (x3 : FVec Ideal S2x2048x256 .f32) (p : Fin 2) (τ : Fin 16) (d : Fin 64) (h : Fin 256) :
    W1v x3 (ix4 p τ d h) = x3 (ix3 1 ⟨1024 * p.val + 64 * τ.val + d.val, by omega⟩ h) := by
  pointwise [W1v]
  blk_ext

theorem POS_at (x2 : FVec Ideal S2x32x64 .f32) (r : Fin 4) (j : Fin 2048) :
    POS x2 (ix2 r j) = x2 (ix3 ⟨r.val / 2, by omega⟩ ⟨16 * (r.val % 2) + j.val / 128, by omega⟩ ⟨j.val % 64, by omega⟩) := by
  pointwise [POS, POSk, POSv]
  split_ifs <;> blk_ext

theorem W2_at (x4 : FVec Ideal S2x256x64 .f32) (s : Fin 2) (h : Fin 256) (l : Fin 128) :
    W2 x4 (ix3 s h l) = x4 (ix3 s h ⟨l.val % 64, by omega⟩) := by
  pointwise [W2]
  split_ifs <;> blk_ext

theorem KN_at (x5 : FVec Ideal S3x64 .f32) (l : Fin 128) : KN x5 (ix2 0 l) = x5 (ix2 0 ⟨l.val % 64, by omega⟩) := by
  pointwise [KN, gain]
  split_ifs <;> blk_ext

theorem rows_at (x : FVec Ideal S32768x128 .f32) (b : Fin 4) (n : Fin 512) (j : Fin 2048) :
    (shapeCast S4x512x2048 x shapeCasts_S32768x128_S4x512x2048 : FVec Ideal S4x512x2048 .f32) (ix3 b n j)
      = x (ix2 ⟨8192 * b.val + 16 * n.val + j.val / 128, by omega⟩ ⟨j.val % 128, by omega⟩) := by
  pointwise []
  blk_ext

/-- The first weight of the keys, as the kernel reads it. -/
theorem wk_at (x3 : FVec Ideal S2x2048x256 .f32) (j : Fin 2048) (n : Fin 1024) :
    WW (W1k x3) (ix2 j n) = if n.val / 256 % 2 = j.val / 64 % 2
      then x3 (ix3 0 ⟨1024 * (n.val / 512) + 64 * (j.val / 128) + j.val % 64, by omega⟩ ⟨n.val % 256, by omega⟩) else 0 := by
  pointwise [WW]
  by_cases h1 : n.val < 256
  · rw [dif_pos h1, put_at 0#32 0 rfl, half0_at, W1k_at]
    refine if_congr (by simp only [Fin.val_zero]; omega) ?_ rfl
    blk_ext
  rw [dif_neg h1]
  by_cases h2 : n.val < 512
  · rw [dif_pos (by omega), put_at 1#32 1 rfl, half0_at, W1k_at]
    refine if_congr (by simp only [Fin.val_one]; omega) ?_ rfl
    blk_ext
  rw [dif_neg (by omega)]
  by_cases h3 : n.val < 768
  · rw [dif_pos (by omega), put_at 0#32 0 rfl, half1_at, W1k_at]
    refine if_congr (by simp only [Fin.val_zero]; omega) ?_ rfl
    blk_ext
  · rw [dif_neg (by omega), put_at 1#32 1 rfl, half1_at, W1k_at]
    refine if_congr (by simp only [Fin.val_one]; omega) ?_ rfl
    blk_ext

/-- The first weight of the values, as the kernel reads it. -/
theorem wv_at (x3 : FVec Ideal S2x2048x256 .f32) (j : Fin 2048) (n : Fin 1024) :
    WW (W1v x3) (ix2 j n) = if n.val / 256 % 2 = j.val / 64 % 2
      then x3 (ix3 1 ⟨1024 * (n.val / 512) + 64 * (j.val / 128) + j.val % 64, by omega⟩ ⟨n.val % 256, by omega⟩) else 0 := by
  pointwise [WW]
  by_cases h1 : n.val < 256
  · rw [dif_pos h1, put_at 0#32 0 rfl, half0_at, W1v_at]
    refine if_congr (by simp only [Fin.val_zero]; omega) ?_ rfl
    blk_ext
  rw [dif_neg h1]
  by_cases h2 : n.val < 512
  · rw [dif_pos (by omega), put_at 1#32 1 rfl, half0_at, W1v_at]
    refine if_congr (by simp only [Fin.val_one]; omega) ?_ rfl
    blk_ext
  rw [dif_neg (by omega)]
  by_cases h3 : n.val < 768
  · rw [dif_pos (by omega), put_at 0#32 0 rfl, half1_at, W1v_at]
    refine if_congr (by simp only [Fin.val_zero]; omega) ?_ rfl
    blk_ext
  · rw [dif_neg (by omega), put_at 1#32 1 rfl, half1_at, W1v_at]
    refine if_congr (by simp only [Fin.val_one]; omega) ?_ rfl
    blk_ext

end Cert.CmpVal
end
-- ==== Proof.CmpRef.lean ====
/- The compressed keys and values of the reference, entry by entry: the pair of strides of every block, the
   first product, the activation, the second product and the keys' norm. -/
module

public import proofs.«01_k».proof.Proof.Gen.CompressReferenceIdeal.Read
public import Idealize.ShloMosaic.Lib.Pipeline.ValueKit
public import Idealize.ShloMosaic.Lib.Claim

@[expose] public noncomputable section

set_option maxRecDepth 16384

namespace Cert.CmpRef

open Cert.CompressReferenceIdeal Cert.CompressReferenceIdeal.Gen Cert.CompressReferenceIdeal.Read Idealize.ShloMosaic

/-- The token stream, by row and column number. -/
def X (x : FVec Ideal S32768x128 .f32) (R C : ℕ) : EReal :=
  if h : R < 32768 ∧ C < 128 then x (ix2 ⟨R, h.1⟩ ⟨C, h.2⟩) else 0

theorem X_at (x : FVec Ideal S32768x128 .f32) (p : S32768x128.Idx) (R C : ℕ) (hR : (p 0).val = R) (hC : (p 1).val = C) :
    x p = X x R C := by
  have h0 : (p 0).val < 32768 := (p 0).isLt
  have h1 : (p 1).val < 128 := (p 1).isLt
  subst hR hC
  unfold X
  rw [dif_pos ⟨h0, h1⟩]
  congr 1
  exact eq_ix2 p

/-- Coordinate `e` of block `n`, in batch `b` and group `g`: 32 tokens from token `16 n` on, going round. -/
def tok (x : FVec Ideal S32768x128 .f32) (b g n e : ℕ) : EReal :=
  X x (8192 * b + 16 * ((n + e / 1024) % 512) + e % 1024 / 64) (64 * g + e % 64)

/-- The first product. -/
def pre (s : Fin 2) (x : FVec Ideal S32768x128 .f32) (x2 : FVec Ideal S2x32x64 .f32) (x3 : FVec Ideal S2x2048x256 .f32)
    (b g n : ℕ) (h : Fin 256) : EReal :=
  ∑ e : Fin 2048, (tok x b g n e.val + x2 (ix3 s ⟨e.val / 64, by omega⟩ ⟨e.val % 64, by omega⟩)) * x3 (ix3 s e h)

/-- The activation. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The second product. -/
def act (s : Fin 2) (x : FVec Ideal S32768x128 .f32) (x2 : FVec Ideal S2x32x64 .f32) (x3 : FVec Ideal S2x2048x256 .f32)
    (x4 : FVec Ideal S2x256x64 .f32) (b g n : ℕ) (l : Fin 64) : EReal :=
  ∑ h : Fin 256, gelu (pre s x x2 x3 b g n h) * x4 (ix3 s h l)

/-- A normalised key. -/
def nrm (x : FVec Ideal S32768x128 .f32) (x2 : FVec Ideal S2x32x64 .f32) (x3 : FVec Ideal S2x2048x256 .f32)
    (x4 : FVec Ideal S2x256x64 .f32) (x5 : FVec Ideal S3x64 .f32) (b g n : ℕ) (l : Fin 64) : EReal :=
  act 0 x x2 x3 x4 b g n l
    * Ideal.rsqrt (Ideal.div (∑ k : Fin 64, act 0 x x2 x3 x4 b g n k * act 0 x x2 x3 x4 b g n k) (Ideal.ofBits .f32 0x42800000#32)
      + Ideal.ofBits .f32 0x358637BD#32) * x5 (ix2 0 l)

theorem zero_at : FloatOps.ofBits (F := Ideal) .f32 0x00000000#32 = (0 : EReal) := by
  show Ideal.ofBits FTy.f32 0x00000000#32 = 0
  simp [Ideal.ofBits, Ideal.ieee]

section keys

variable (x : FVec Ideal S32768x128 .f32) (x2 : FVec Ideal S2x32x64 .f32) (x3 : FVec Ideal S2x2048x256 .f32)
  (x4 : FVec Ideal S2x256x64 .f32) (x5 : FVec Ideal S3x64 .f32)

theorem keys_strides (p : S4x2x512x16x64.Idx) :
    val_main_v8 (F := Ideal) x p = X x (8192 * (p 0).val + 16 * (p 2).val + (p 3).val) (64 * (p 1).val + (p 4).val) := by
  have h0 : (p 0).val < 4 := (p 0).isLt
  have h1 : (p 1).val < 2 := (p 1).isLt
  have h2 : (p 2).val < 512 := (p 2).isLt
  have h3 : (p 3).val < 16 := (p 3).isLt
  have h4 : (p 4).val < 64 := (p 4).isLt
  have a0 : ((((p 0).val * 2 + (p 1).val) * 512 + (p 2).val) * 16 + (p 3).val) * 64 + (p 4).val
      = 1048576 * (p 0).val + 524288 * (p 1).val + 1024 * (p 2).val + 64 * (p 3).val + (p 4).val := by omega
  have a1 : (((((p 0).val * 2 + (p 1).val) * 512 + (p 2).val) * 16 + (p 3).val) * 64 + (p 4).val) / 1048576 = (p 0).val := by omega
  have a2 : (((((p 0).val * 2 + (p 1).val) * 512 + (p 2).val) * 16 + (p 3).val) * 64 + (p 4).val) / 524288 % 2 = (p 1).val := by omega
  have a3 : (((((p 0).val * 2 + (p 1).val) * 512 + (p 2).val) * 16 + (p 3).val) * 64 + (p 4).val) / 64 % 8192
      = 16 * (p 2).val + (p 3).val := by omega
  have a4 : (((((p 0).val * 2 + (p 1).val) * 512 + (p 2).val) * 16 + (p 3).val) * 64 + (p 4).val) % 64 = (p 4).val := by omega
  rw [val_main_v8_apply, val_main_v7_apply, val_main_v6_apply]
  refine X_at x _ _ _ ?_ ?_
  · show (((_ * 8192 + _) * 2 + _) * 64 + _) / 128 = _
    dsimp only [idx_main_v7, idx_main_v8]
    rw [a1, a2, a3, a4]
    omega
  · show (((_ * 8192 + _) * 2 + _) * 64 + _) % 128 = _
    dsimp only [idx_main_v7, idx_main_v8]
    rw [a1, a2, a3, a4]
    omega

theorem keys_next (p : S4x2x512x16x64.Idx) :
    val_main_v9 (F := Ideal) x p
      = X x (8192 * (p 0).val + 16 * (((p 2).val + 1) % 512) + (p 3).val) (64 * (p 1).val + (p 4).val) := by
  have h2 : (p 2).val < 512 := (p 2).isLt
  unfold val_main_v9
  by_cases h : (p 2).val < 511
  · refine (concatenate_pair_apply_left 2 _ _ concatenates_S4x2x511x16x64_S4x2x1x16x64_S4x2x512x16x64_d2 p rfl
      (fun a => match a with
        | ⟨0, _⟩ => p 0 | ⟨1, _⟩ => p 1 | ⟨2, _⟩ => ⟨(p 2).val, h⟩ | ⟨3, _⟩ => p 3 | ⟨4, _⟩ => p 4) ?_).trans ?_
    · intro a
      match a with
      | ⟨0, _⟩ => rfl
      | ⟨1, _⟩ => rfl
      | ⟨2, _⟩ => rfl
      | ⟨3, _⟩ => rfl
      | ⟨4, _⟩ => rfl
    · rw [val_main_call0_v0_apply, keys_strides]
      show X x (8192 * (p 0).val + 16 * (1 + (p 2).val) + (p 3).val) (64 * (p 1).val + (p 4).val) = _
      congr 2
      omega
  · refine (concatenate_pair_apply_right 2 _ _ concatenates_S4x2x511x16x64_S4x2x1x16x64_S4x2x512x16x64_d2 p rfl rfl
      (fun a => match a with
        | ⟨0, _⟩ => p 0 | ⟨1, _⟩ => p 1 | ⟨2, _⟩ => ⟨0, Nat.one_pos⟩ | ⟨3, _⟩ => p 3 | ⟨4, _⟩ => p 4) ?_ ?_).trans ?_
    · intro a ha
      match a with
      | ⟨0, _⟩ => rfl
      | ⟨1, _⟩ => rfl
      | ⟨2, _⟩ => exact absurd rfl ha
      | ⟨3, _⟩ => rfl
      | ⟨4, _⟩ => rfl
    · show 0 + 511 = (p 2).val
      omega
    · rw [val_main_call0_v1_apply, keys_strides]
      show X x (8192 * (p 0).val + 16 * 0 + (p 3).val) (64 * (p 1).val + (p 4).val) = _
      congr 2
      omega

theorem keys_pair (p : S4x2x512x32x64.Idx) :
    val_main_v10 (F := Ideal) x p = X x (8192 * (p 0).val + 16 * (((p 2).val + (p 3).val / 16) % 512) + (p 3).val % 16)
      (64 * (p 1).val + (p 4).val) := by
  have h2 : (p 2).val < 512 := (p 2).isLt
  have h3 : (p 3).val < 32 := (p 3).isLt
  unfold val_main_v10
  by_cases h : (p 3).val < 16
  · refine (concatenate_pair_apply_left 3 _ _ concatenates_S4x2x512x16x64_S4x2x512x16x64_S4x2x512x32x64_d3 p rfl
      (fun a => match a with
        | ⟨0, _⟩ => p 0 | ⟨1, _⟩ => p 1 | ⟨2, _⟩ => p 2 | ⟨3, _⟩ => ⟨(p 3).val, h⟩ | ⟨4, _⟩ => p 4) ?_).trans ?_
    · intro a
      match a with
      | ⟨0, _⟩ => rfl
      | ⟨1, _⟩ => rfl
      | ⟨2, _⟩ => rfl
      | ⟨3, _⟩ => rfl
      | ⟨4, _⟩ => rfl
    · rw [keys_strides]
      show X x (8192 * (p 0).val + 16 * (p 2).val + (p 3).val) (64 * (p 1).val + (p 4).val) = _
      congr 1
      omega
  · refine (concatenate_pair_apply_right 3 _ _ concatenates_S4x2x512x16x64_S4x2x512x16x64_S4x2x512x32x64_d3 p rfl rfl
      (fun a => match a with
        | ⟨0, _⟩ => p 0 | ⟨1, _⟩ => p 1 | ⟨2, _⟩ => p 2 | ⟨3, _⟩ => ⟨(p 3).val - 16, by show _ < 16; omega⟩ | ⟨4, _⟩ => p 4) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show (p 3).val - 16 + 16 = (p 3).val
      omega
    · rw [keys_next]
      show X x (8192 * (p 0).val + 16 * (((p 2).val + 1) % 512) + ((p 3).val - 16)) (64 * (p 1).val + (p 4).val) = _
      congr 1
      omega

theorem keys_in (p : S4x2x512x2048.Idx) (h3 : (p 3).val < 2048) :
    val_main_v14 (F := Ideal) x x2 p = tok x (p 0).val (p 1).val (p 2).val (p 3).val
      + x2 (ix3 0 ⟨(p 3).val / 64, by omega⟩ ⟨(p 3).val % 64, by omega⟩) := by
  have h0 : (p 0).val < 4 := (p 0).isLt
  have h1 : (p 1).val < 2 := (p 1).isLt
  have h2 : (p 2).val < 512 := (p 2).isLt
  rw [val_main_v14_apply, val_main_v13_apply, keys_pair, val_main_v12_apply, val_main_v11_apply, val_main_v1_apply,
    val_main_v0_apply]
  refine congrArg₂ (fun a b : EReal => a + b) ?_ (congrArg x2 ?_)
  · unfold tok
    dsimp only [idx_main_v14]
    congr 1
    · omega
    · omega
  · funext a
    apply Fin.ext
    match a with
    | ⟨0, _⟩ => rfl
    | ⟨1, _⟩ => dsimp only [idx_main_v0, idx_main_v1, idx_main_v11, idx_main_v12, idx_main_v14, ix3]; omega
    | ⟨2, _⟩ => dsimp only [idx_main_v0, idx_main_v1, idx_main_v11, idx_main_v12, idx_main_v14, ix3]; omega

theorem keys_pre (p : S4x2x512x256.Idx) (h3 : (p 3).val < 256) :
    val_main_v15 (F := Ideal) x x2 x3 p = pre 0 x x2 x3 (p 0).val (p 1).val (p 2).val ⟨(p 3).val, h3⟩ := by
  rw [val_main_v15_apply]
  unfold pre
  refine Finset.sum_congr rfl fun e _ => congrArg₂ (fun a b : EReal => a * b) ?_ ?_
  · exact keys_in x x2 _ e.isLt
  · have he : e.val < 2048 := e.isLt
    rw [val_main_v3_apply, val_main_v2_apply]
    refine congrArg x3 ?_
    funext a
    apply Fin.ext
    match a with
    | ⟨0, _⟩ => rfl
    | ⟨1, _⟩ => dsimp only [idx_main_v2, idx_main_v3, ridx_main_v15, ix3]; omega
    | ⟨2, _⟩ => dsimp only [idx_main_v2, idx_main_v3, ridx_main_v15, ix3]; omega

theorem keys_gelu (p : S4x2x512x256.Idx) (h3 : (p 3).val < 256) :
    val_main_v28 (F := Ideal) x x2 x3 p = gelu (pre 0 x x2 x3 (p 0).val (p 1).val (p 2).val ⟨(p 3).val, h3⟩) := by
  rw [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, keys_pre x x2 x3 p h3]
  generalize pre 0 x x2 x3 (p 0).val (p 1).val (p 2).val ⟨(p 3).val, h3⟩ = z
  unfold gelu
  rw [mul_comm z (z * z)]
  rfl

theorem keys_act (p : S4x2x512x64.Idx) (h3 : (p 3).val < 64) :
    val_main_v29 (F := Ideal) x x2 x3 x4 p = act 0 x x2 x3 x4 (p 0).val (p 1).val (p 2).val ⟨(p 3).val, h3⟩ := by
  rw [val_main_v29_apply]
  unfold act
  refine Finset.sum_congr rfl fun e _ => congrArg₂ (fun a b : EReal => a * b) ?_ ?_
  · exact keys_gelu x x2 x3 _ e.isLt
  · have he : e.val < 256 := e.isLt
    rw [val_main_v5_apply, val_main_v4_apply]
    refine congrArg x4 ?_
    funext a
    apply Fin.ext
    match a with
    | ⟨0, _⟩ => rfl
    | ⟨1, _⟩ => dsimp only [idx_main_v4, idx_main_v5, ridx_main_v29, ix3]; omega
    | ⟨2, _⟩ => dsimp only [idx_main_v4, idx_main_v5, ridx_main_v29, ix3]; omega

end keys

section values

variable (x : FVec Ideal S32768x128 .f32) (x2 : FVec Ideal S2x32x64 .f32) (x3 : FVec Ideal S2x2048x256 .f32)
  (x4 : FVec Ideal S2x256x64 .f32) (x5 : FVec Ideal S3x64 .f32)

theorem values_strides (p : S4x2x512x16x64.Idx) :
    val_main_v53 (F := Ideal) x p = X x (8192 * (p 0).val + 16 * (p 2).val + (p 3).val) (64 * (p 1).val + (p 4).val) := by
  have h0 : (p 0).val < 4 := (p 0).isLt
  have h1 : (p 1).val < 2 := (p 1).isLt
  have h2 : (p 2).val < 512 := (p 2).isLt
  have h3 : (p 3).val < 16 := (p 3).isLt
  have h4 : (p 4).val < 64 := (p 4).isLt
  have a0 : ((((p 0).val * 2 + (p 1).val) * 512 + (p 2).val) * 16 + (p 3).val) * 64 + (p 4).val
      = 1048576 * (p 0).val + 524288 * (p 1).val + 1024 * (p 2).val + 64 * (p 3).val + (p 4).val := by omega
  have a1 : (((((p 0).val * 2 + (p 1).val) * 512 + (p 2).val) * 16 + (p 3).val) * 64 + (p 4).val) / 1048576 = (p 0).val := by omega
  have a2 : (((((p 0).val * 2 + (p 1).val) * 512 + (p 2).val) * 16 + (p 3).val) * 64 + (p 4).val) / 524288 % 2 = (p 1).val := by omega
  have a3 : (((((p 0).val * 2 + (p 1).val) * 512 + (p 2).val) * 16 + (p 3).val) * 64 + (p 4).val) / 64 % 8192
      = 16 * (p 2).val + (p 3).val := by omega
  have a4 : (((((p 0).val * 2 + (p 1).val) * 512 + (p 2).val) * 16 + (p 3).val) * 64 + (p 4).val) % 64 = (p 4).val := by omega
  rw [val_main_v53_apply, val_main_v52_apply, val_main_v51_apply]
  refine X_at x _ _ _ ?_ ?_
  · show (((_ * 8192 + _) * 2 + _) * 64 + _) / 128 = _
    dsimp only [idx_main_v52, idx_main_v53]
    rw [a1, a2, a3, a4]
    omega
  · show (((_ * 8192 + _) * 2 + _) * 64 + _) % 128 = _
    dsimp only [idx_main_v52, idx_main_v53]
    rw [a1, a2, a3, a4]
    omega

theorem values_next (p : S4x2x512x16x64.Idx) :
    val_main_v54 (F := Ideal) x p
      = X x (8192 * (p 0).val + 16 * (((p 2).val + 1) % 512) + (p 3).val) (64 * (p 1).val + (p 4).val) := by
  have h2 : (p 2).val < 512 := (p 2).isLt
  unfold val_main_v54
  by_cases h : (p 2).val < 511
  · refine (concatenate_pair_apply_left 2 _ _ concatenates_S4x2x511x16x64_S4x2x1x16x64_S4x2x512x16x64_d2 p rfl
      (fun a => match a with
        | ⟨0, _⟩ => p 0 | ⟨1, _⟩ => p 1 | ⟨2, _⟩ => ⟨(p 2).val, h⟩ | ⟨3, _⟩ => p 3 | ⟨4, _⟩ => p 4) ?_).trans ?_
    · intro a
      match a with
      | ⟨0, _⟩ => rfl
      | ⟨1, _⟩ => rfl
      | ⟨2, _⟩ => rfl
      | ⟨3, _⟩ => rfl
      | ⟨4, _⟩ => rfl
    · rw [val_main_call1_v0_apply, values_strides]
      show X x (8192 * (p 0).val + 16 * (1 + (p 2).val) + (p 3).val) (64 * (p 1).val + (p 4).val) = _
      congr 2
      omega
  · refine (concatenate_pair_apply_right 2 _ _ concatenates_S4x2x511x16x64_S4x2x1x16x64_S4x2x512x16x64_d2 p rfl rfl
      (fun a => match a with
        | ⟨0, _⟩ => p 0 | ⟨1, _⟩ => p 1 | ⟨2, _⟩ => ⟨0, Nat.one_pos⟩ | ⟨3, _⟩ => p 3 | ⟨4, _⟩ => p 4) ?_ ?_).trans ?_
    · intro a ha
      match a with
      | ⟨0, _⟩ => rfl
      | ⟨1, _⟩ => rfl
      | ⟨2, _⟩ => exact absurd rfl ha
      | ⟨3, _⟩ => rfl
      | ⟨4, _⟩ => rfl
    · show 0 + 511 = (p 2).val
      omega
    · rw [val_main_call1_v1_apply, values_strides]
      show X x (8192 * (p 0).val + 16 * 0 + (p 3).val) (64 * (p 1).val + (p 4).val) = _
      congr 2
      omega

theorem values_pair (p : S4x2x512x32x64.Idx) :
    val_main_v55 (F := Ideal) x p = X x (8192 * (p 0).val + 16 * (((p 2).val + (p 3).val / 16) % 512) + (p 3).val % 16)
      (64 * (p 1).val + (p 4).val) := by
  have h2 : (p 2).val < 512 := (p 2).isLt
  have h3 : (p 3).val < 32 := (p 3).isLt
  unfold val_main_v55
  by_cases h : (p 3).val < 16
  · refine (concatenate_pair_apply_left 3 _ _ concatenates_S4x2x512x16x64_S4x2x512x16x64_S4x2x512x32x64_d3 p rfl
      (fun a => match a with
        | ⟨0, _⟩ => p 0 | ⟨1, _⟩ => p 1 | ⟨2, _⟩ => p 2 | ⟨3, _⟩ => ⟨(p 3).val, h⟩ | ⟨4, _⟩ => p 4) ?_).trans ?_
    · intro a
      match a with
      | ⟨0, _⟩ => rfl
      | ⟨1, _⟩ => rfl
      | ⟨2, _⟩ => rfl
      | ⟨3, _⟩ => rfl
      | ⟨4, _⟩ => rfl
    · rw [values_strides]
      show X x (8192 * (p 0).val + 16 * (p 2).val + (p 3).val) (64 * (p 1).val + (p 4).val) = _
      congr 1
      omega
  · refine (concatenate_pair_apply_right 3 _ _ concatenates_S4x2x512x16x64_S4x2x512x16x64_S4x2x512x32x64_d3 p rfl rfl
      (fun a => match a with
        | ⟨0, _⟩ => p 0 | ⟨1, _⟩ => p 1 | ⟨2, _⟩ => p 2 | ⟨3, _⟩ => ⟨(p 3).val - 16, by show _ < 16; omega⟩ | ⟨4, _⟩ => p 4) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show (p 3).val - 16 + 16 = (p 3).val
      omega
    · rw [values_next]
      show X x (8192 * (p 0).val + 16 * (((p 2).val + 1) % 512) + ((p 3).val - 16)) (64 * (p 1).val + (p 4).val) = _
      congr 1
      omega

theorem values_in (p : S4x2x512x2048.Idx) (h3 : (p 3).val < 2048) :
    val_main_v59 (F := Ideal) x x2 p = tok x (p 0).val (p 1).val (p 2).val (p 3).val
      + x2 (ix3 1 ⟨(p 3).val / 64, by omega⟩ ⟨(p 3).val % 64, by omega⟩) := by
  have h0 : (p 0).val < 4 := (p 0).isLt
  have h1 : (p 1).val < 2 := (p 1).isLt
  have h2 : (p 2).val < 512 := (p 2).isLt
  rw [val_main_v59_apply, val_main_v58_apply, values_pair, val_main_v57_apply, val_main_v56_apply, val_main_v46_apply,
    val_main_v45_apply]
  refine congrArg₂ (fun a b : EReal => a + b) ?_ (congrArg x2 ?_)
  · unfold tok
    dsimp only [idx_main_v59]
    congr 1
    · omega
    · omega
  · funext a
    apply Fin.ext
    match a with
    | ⟨0, _⟩ => rfl
    | ⟨1, _⟩ => dsimp only [idx_main_v45, idx_main_v46, idx_main_v56, idx_main_v57, idx_main_v59, ix3]; omega
    | ⟨2, _⟩ => dsimp only [idx_main_v45, idx_main_v46, idx_main_v56, idx_main_v57, idx_main_v59, ix3]; omega

theorem values_pre (p : S4x2x512x256.Idx) (h3 : (p 3).val < 256) :
    val_main_v60 (F := Ideal) x x2 x3 p = pre 1 x x2 x3 (p 0).val (p 1).val (p 2).val ⟨(p 3).val, h3⟩ := by
  rw [val_main_v60_apply]
  unfold pre
  refine Finset.sum_congr rfl fun e _ => congrArg₂ (fun a b : EReal => a * b) ?_ ?_
  · exact values_in x x2 _ e.isLt
  · have he : e.val < 2048 := e.isLt
    rw [val_main_v48_apply, val_main_v47_apply]
    refine congrArg x3 ?_
    funext a
    apply Fin.ext
    match a with
    | ⟨0, _⟩ => rfl
    | ⟨1, _⟩ => dsimp only [idx_main_v47, idx_main_v48, ridx_main_v60, ix3]; omega
    | ⟨2, _⟩ => dsimp only [idx_main_v47, idx_main_v48, ridx_main_v60, ix3]; omega

theorem values_gelu (p : S4x2x512x256.Idx) (h3 : (p 3).val < 256) :
    val_main_v73 (F := Ideal) x x2 x3 p = gelu (pre 1 x x2 x3 (p 0).val (p 1).val (p 2).val ⟨(p 3).val, h3⟩) := by
  rw [val_main_v73_apply, val_main_v72_apply, val_main_v71_apply, val_main_v70_apply, val_main_v69_apply, val_main_v68_apply,
    val_main_v67_apply, val_main_v66_apply, val_main_v65_apply, val_main_v64_apply, val_main_v63_apply, val_main_v62_apply,
    val_main_v61_apply, values_pre x x2 x3 p h3]
  generalize pre 1 x x2 x3 (p 0).val (p 1).val (p 2).val ⟨(p 3).val, h3⟩ = z
  unfold gelu
  rw [mul_comm z (z * z)]
  rfl

theorem values_act (p : S4x2x512x64.Idx) (h3 : (p 3).val < 64) :
    val_main_v74 (F := Ideal) x x2 x3 x4 p = act 1 x x2 x3 x4 (p 0).val (p 1).val (p 2).val ⟨(p 3).val, h3⟩ := by
  rw [val_main_v74_apply]
  unfold act
  refine Finset.sum_congr rfl fun e _ => congrArg₂ (fun a b : EReal => a * b) ?_ ?_
  · exact values_gelu x x2 x3 _ e.isLt
  · have he : e.val < 256 := e.isLt
    rw [val_main_v50_apply, val_main_v49_apply]
    refine congrArg x4 ?_
    funext a
    apply Fin.ext
    match a with
    | ⟨0, _⟩ => rfl
    | ⟨1, _⟩ => dsimp only [idx_main_v49, idx_main_v50, ridx_main_v74, ix3]; omega
    | ⟨2, _⟩ => dsimp only [idx_main_v49, idx_main_v50, ridx_main_v74, ix3]; omega

end values

variable (x : FVec Ideal S32768x128 .f32) (x2 : FVec Ideal S2x32x64 .f32) (x3 : FVec Ideal S2x2048x256 .f32)
  (x4 : FVec Ideal S2x256x64 .f32) (x5 : FVec Ideal S3x64 .f32)

theorem keys_norm (p : S4x2x512x64.Idx) (h3 : (p 3).val < 64) :
    val_main_v44 (F := Ideal) x x2 x3 x4 x5 p = nrm x x2 x3 x4 x5 (p 0).val (p 1).val (p 2).val ⟨(p 3).val, h3⟩ := by
  rw [val_main_v44_apply, val_main_v41_apply, val_main_v40_apply, val_main_v39_apply, val_main_v38_apply, val_main_v36_apply,
    val_main_v34_apply, val_main_v33_apply, val_main_v35_apply, val_main_v37_apply, val_main_v43_apply, val_main_v42_apply,
    val_main_v31_apply, val_main_v30_apply, keys_act x x2 x3 x4 p h3, val_main_cst_3_apply, zero_at, zero_add, val_main_cst_4_apply, val_main_cst_5_apply]
  have hs : (∑ k : Fin 64, (val_main_v32 (F := Ideal) x x2 x3 x4) (idx_main_v33 (idx_main_v34 (idx_main_v40 p)) k))
      = ∑ k : Fin 64, act 0 x x2 x3 x4 (p 0).val (p 1).val (p 2).val k * act 0 x x2 x3 x4 (p 0).val (p 1).val (p 2).val k := by
    refine Finset.sum_congr rfl fun k _ => ?_
    rw [val_main_v32_apply, keys_act x x2 x3 x4 _ k.isLt]
    rfl
  rw [hs]
  unfold nrm
  refine congrArg₂ (fun a b : EReal => a * b) rfl (congrArg x5 ?_)
  funext a
  apply Fin.ext
  match a with
  | ⟨0, _⟩ => rfl
  | ⟨1, _⟩ => dsimp only [idx_main_v30, idx_main_v31, idx_main_v42, idx_main_v43, ix2]; omega

/-- A result beside its copy, at a lane. -/
theorem twice (y : FVec Ideal S4x2x512x64 .f32) (p : S4x2x512x128.Idx) (f : Fin 64 → EReal)
    (h : ∀ q : S4x2x512x64.Idx, ∀ h3 : (q 3).val < 64, q 0 = p 0 → q 1 = p 1 → q 2 = p 2 → y q = f ⟨(q 3).val, h3⟩) :
    concatenate S4x2x512x128 3 [⟨S4x2x512x64, (y : (⟨S4x2x512x64, .f32⟩ : BufTy).Contents (Elt Ideal))⟩,
        ⟨S4x2x512x64, (y : (⟨S4x2x512x64, .f32⟩ : BufTy).Contents (Elt Ideal))⟩] concatenates_S4x2x512x64_S4x2x512x64_S4x2x512x128_d3 p
      = f ⟨(p 3).val % 64, by omega⟩ := by
  have hp : (p 3).val < 128 := (p 3).isLt
  by_cases hl : (p 3).val < 64
  · refine (concatenate_pair_apply_left 3 _ _ concatenates_S4x2x512x64_S4x2x512x64_S4x2x512x128_d3 p rfl
      (fun a => match a with
        | ⟨0, _⟩ => p 0 | ⟨1, _⟩ => p 1 | ⟨2, _⟩ => p 2 | ⟨3, _⟩ => ⟨(p 3).val, hl⟩) ?_).trans ?_
    · intro a
      match a with
      | ⟨0, _⟩ => rfl
      | ⟨1, _⟩ => rfl
      | ⟨2, _⟩ => rfl
      | ⟨3, _⟩ => rfl
    · refine (h _ hl rfl rfl rfl).trans (congrArg f (Fin.ext ?_))
      show (p 3).val = (p 3).val % 64
      omega
  · refine (concatenate_pair_apply_right 3 _ _ concatenates_S4x2x512x64_S4x2x512x64_S4x2x512x128_d3 p rfl rfl
      (fun a => match a with
        | ⟨0, _⟩ => p 0 | ⟨1, _⟩ => p 1 | ⟨2, _⟩ => p 2 | ⟨3, _⟩ => ⟨(p 3).val - 64, by show _ < 64; omega⟩) ?_ ?_).trans ?_
    · intro a ha
      match a with
      | ⟨0, _⟩ => rfl
      | ⟨1, _⟩ => rfl
      | ⟨2, _⟩ => rfl
      | ⟨3, _⟩ => exact absurd rfl ha
    · show (p 3).val - 64 + 64 = (p 3).val
      omega
    · have hl' : (p 3).val - 64 < 64 := by omega
      refine (h _ hl' rfl rfl rfl).trans (congrArg f (Fin.ext ?_))
      show (p 3).val - 64 = (p 3).val % 64
      omega

theorem keys_out (p : S4x2x512x128.Idx) :
    val_main_v76 (F := Ideal) x x2 x3 x4 x5 p
      = nrm x x2 x3 x4 x5 (p 0).val (p 1).val (p 2).val ⟨(p 3).val % 64, by omega⟩ := by
  rw [val_main_v76_apply]
  refine twice (val_main_v44 (F := Ideal) x x2 x3 x4 x5) p (fun l => nrm x x2 x3 x4 x5 (p 0).val (p 1).val (p 2).val l) ?_
  intro q h3 e0 e1 e2
  rw [keys_norm x x2 x3 x4 x5 q h3, e0, e1, e2]

theorem values_out (p : S4x2x512x128.Idx) :
    val_main_v78 (F := Ideal) x x2 x3 x4 p
      = act 1 x x2 x3 x4 (p 0).val (p 1).val (p 2).val ⟨(p 3).val % 64, by omega⟩ := by
  rw [val_main_v78_apply]
  refine twice (val_main_v74 (F := Ideal) x x2 x3 x4) p (fun l => act 1 x x2 x3 x4 (p 0).val (p 1).val (p 2).val l) ?_
  intro q h3 e0 e1 e2
  rw [values_act x x2 x3 x4 q h3, e0, e1, e2]

end Cert.CmpRef
-- ==== Proof.CmpMath.lean ====
/- The sums of the compression: a weight that is nought outside one group's lanes sums over that group alone,
   two halves make the whole, and a row beside its copy has the same mean square. -/
module

public import proofs.«01_k».proof.Proof.CmpHost
public import proofs.«01_k».proof.Proof.CmpRef

@[expose] public section

set_option maxRecDepth 16384

noncomputable section

namespace Cert.CmpVal

open Cert.CompressIdeal Cert.CompressIdeal.Gen Idealize.ShloMosaic Idealize.ShloMosaic.TcCoe Idealize.SL.Sem

/-- Where coordinate `e` of group `g` sits among the 2048 lanes of a row of 16 tokens. -/
def lane (g : Fin 2) (e : Fin 1024) : Fin 2048 := ⟨128 * (e.val / 64) + 64 * g.val + e.val % 64, by omega⟩

theorem sum_group (g : Fin 2) (f w : Fin 2048 → EReal) :
    ∑ k : Fin 2048, f k * (if g.val = k.val / 64 % 2 then w k else 0) = ∑ e : Fin 1024, f (lane g e) * w (lane g e) := by
  have h1 : ∀ k : Fin 2048, f k * (if g.val = k.val / 64 % 2 then w k else 0) = if g.val = k.val / 64 % 2 then f k * w k else 0 := by
    intro k
    split_ifs
    · rfl
    · exact mul_zero _
  rw [Finset.sum_congr rfl fun k _ => h1 k, ← Finset.sum_filter]
  refine Finset.sum_bij' (fun k _ => (⟨64 * (k.val / 128) + k.val % 64, by omega⟩ : Fin 1024)) (fun e _ => lane g e) ?_ ?_ ?_ ?_ ?_
  · intro k _; exact Finset.mem_univ _
  · intro e _
    refine Finset.mem_filter.2 ⟨Finset.mem_univ _, ?_⟩
    unfold lane; dsimp only; omega
  · intro k hk
    have := (Finset.mem_filter.1 hk).2
    apply Fin.ext; unfold lane; dsimp only; omega
  · intro e _
    apply Fin.ext; unfold lane; dsimp only; omega
  · intro k hk
    have := (Finset.mem_filter.1 hk).2
    have e : lane g ⟨64 * (k.val / 128) + k.val % 64, by omega⟩ = k := by
      apply Fin.ext; unfold lane; dsimp only; omega
    rw [e]

theorem sum_halves (f : Fin 2048 → EReal) :
    ∑ e : Fin 1024, f ⟨e.val, by omega⟩ + ∑ e : Fin 1024, f ⟨1024 + e.val, by omega⟩ = ∑ e : Fin 2048, f e :=
  (Fin.sum_univ_add (a := 1024) (b := 1024) f).symm

theorem sum_twice (f : Fin 64 → EReal) : ∑ l : Fin 128, f ⟨l.val % 64, by omega⟩ = ∑ k, f k + ∑ k, f k := by
  refine (Fin.sum_univ_add (a := 64) (b := 64) (fun l : Fin 128 => f ⟨l.val % 64, by omega⟩)).trans ?_
  refine congrArg₂ (fun a b : EReal => a + b) (Finset.sum_congr rfl fun k _ => congrArg f (Fin.ext ?_))
    (Finset.sum_congr rfl fun k _ => congrArg f (Fin.ext ?_))
  · show k.val % 64 = k.val; omega
  · show (64 + k.val) % 64 = k.val; omega

theorem c128 : Ideal.ofBits .f32 0x43000000#32 = ((128 : ℝ) : EReal) := by
  simp [Ideal.ofBits, Ideal.ieee]
  norm_num
  rw [← EReal.coe_mul]
  norm_num

theorem c64 : Ideal.ofBits .f32 0x42800000#32 = ((64 : ℝ) : EReal) := by
  simp [Ideal.ofBits, Ideal.ieee]
  norm_num
  rw [← EReal.coe_mul]
  norm_num

theorem c1 : Ideal.ofBits .f32 0x3F800000#32 = (1 : EReal) := by
  simp [Ideal.ofBits, Ideal.ieee]
  norm_num
  rw [← EReal.coe_mul]
  norm_num

theorem mean_twice (s : EReal) : Ideal.div (s + s) (Ideal.ofBits .f32 0x43000000#32) = Ideal.div s (Ideal.ofBits .f32 0x42800000#32) := by
  rw [c128, c64]
  unfold Ideal.div
  rw [if_neg (by norm_cast), if_neg (by norm_cast), ← EReal.coe_inv, ← EReal.coe_inv]
  induction s using EReal.rec with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe r =>
    norm_cast
    ring

theorem pay3_at (v0 : FVec Ideal S1x512x2048 .f32) (v2 v10 : FVec Ideal S1x2048 .f32) (v7 v15 : FVec Ideal S2048x512 .bf16) (r c : Fin 512) :
    k0_pay3 (F := Ideal) v0 v2 v7 v10 v15 (ix2 r c)
      = Cert.CmpRef.gelu (∑ k : Fin 2048, (v0 (ix3 0 r k) + v2 (ix2 0 k)) * v7 (ix2 k c)
        + ∑ k : Fin 2048, (v0 (ix3 0 ⟨(r.val + 1) % 512, by omega⟩ k) + v10 (ix2 0 k)) * v15 (ix2 k c)) := by
  pointwise [k0_pay3]
  unfold Cert.CmpRef.gelu
  have e : (r.val + 512 - 511) % 512 = (r.val + 1) % 512 := by omega
  simp only [e, c1]

theorem pay9_at (v0 : FVec Ideal S1x512x2048 .f32) (v2 v10 : FVec Ideal S1x2048 .f32) (v7 v15 : FVec Ideal S2048x512 .bf16) (r c : Fin 512) :
    k0_pay9 (F := Ideal) v0 v2 v7 v10 v15 (ix2 r c)
      = Cert.CmpRef.gelu (∑ k : Fin 2048, (v0 (ix3 0 r k) + v2 (ix2 0 k)) * v7 (ix2 k c)
        + ∑ k : Fin 2048, (v0 (ix3 0 ⟨(r.val + 1) % 512, by omega⟩ k) + v10 (ix2 0 k)) * v15 (ix2 k c)) := by
  pointwise [k0_pay9]
  unfold Cert.CmpRef.gelu
  have e : (r.val + 512 - 511) % 512 = (r.val + 1) % 512 := by omega
  simp only [e, c1]

theorem pay4_at (v0 : FVec Ideal S1x512x2048 .f32) (v2 v10 : FVec Ideal S1x2048 .f32) (v7 v15 : FVec Ideal S2048x512 .bf16) (r : Fin 512) (h : Fin 256) :
    k0_pay4 (F := Ideal) v0 v2 v7 v10 v15 (ix2 r h) = k0_pay3 (F := Ideal) v0 v2 v7 v10 v15 (ix2 r ⟨h.val, by omega⟩) := by
  unfold k0_pay4
  generalize k0_pay3 (F := Ideal) v0 v2 v7 v10 v15 = z
  pointwise []

theorem pay10_at (v0 : FVec Ideal S1x512x2048 .f32) (v2 v10 : FVec Ideal S1x2048 .f32) (v7 v15 : FVec Ideal S2048x512 .bf16) (r : Fin 512) (h : Fin 256) :
    k0_pay10 (F := Ideal) v0 v2 v7 v10 v15 (ix2 r h) = k0_pay9 (F := Ideal) v0 v2 v7 v10 v15 (ix2 r ⟨h.val, by omega⟩) := by
  unfold k0_pay10
  generalize k0_pay9 (F := Ideal) v0 v2 v7 v10 v15 = z
  pointwise []

/-- The norm of a row of 128 lanes at one lane. -/
def rms (a : Fin 128 → EReal) (g : EReal) (l : Fin 128) : EReal :=
  a l * Ideal.rsqrt (Ideal.div (∑ k : Fin 128, a k * a k) (Ideal.ofBits .f32 0x43000000#32) + Ideal.ofBits .f32 0x358637BD#32) * g

theorem pay6_at (z : FVec Ideal S512x256 .bf16) (w : FVec Ideal S1x256x128 .bf16) (kn : FVec Ideal S1x128 .f32) (r : Fin 512) (l : Fin 128) :
    k0_pay6 (F := Ideal) z (k0_pay5 w) (constant S512x128 .f32 0x00000000#32) kn (ix4 0 0 r l)
      = rms (fun l => ∑ h : Fin 256, z (ix2 r h) * w (ix3 0 h l)) (kn (ix2 0 l)) l := by
  pointwise [k0_pay6, k0_pay5]
  rfl

theorem pay8_at (z : FVec Ideal S512x512 .f32) (w : FVec Ideal S1x256x128 .bf16) (kn : FVec Ideal S1x128 .f32) (r : Fin 512) (l : Fin 128) :
    k0_pay8 (F := Ideal) (k0_pay7 z w kn) (ix4 0 0 r l)
      = rms (fun l => ∑ h : Fin 256, z (ix2 r ⟨256 + h.val, by omega⟩) * w (ix3 0 h l)) (kn (ix2 0 l)) l := by
  pointwise [k0_pay8, k0_pay7]
  rfl

theorem pay1_at (z : FVec Ideal S512x256 .bf16) (w : FVec Ideal S1x256x128 .bf16) (r : Fin 512) (l : Fin 128) :
    k0_pay1 (F := Ideal) z w (ix4 0 0 r l) = ∑ h : Fin 256, z (ix2 r h) * w (ix3 0 h l) := by
  pointwise [k0_pay1]

theorem pay2_at (z : FVec Ideal S512x512 .f32) (w : FVec Ideal S1x256x128 .bf16) (r : Fin 512) (l : Fin 128) :
    k0_pay2 (F := Ideal) z w (ix4 0 0 r l) = ∑ h : Fin 256, z (ix2 r ⟨256 + h.val, by omega⟩) * w (ix3 0 h l) := by
  pointwise [k0_pay2]

/-- A row beside its copy is normalised as the row alone. -/
theorem rms_twice (f : Fin 64 → EReal) (g : EReal) (l : Fin 128) :
    rms (fun l => f ⟨l.val % 64, by omega⟩) g l
      = f ⟨l.val % 64, by omega⟩ * Ideal.rsqrt (Ideal.div (∑ k : Fin 64, f k * f k) (Ideal.ofBits .f32 0x42800000#32) + Ideal.ofBits .f32 0x358637BD#32) * g := by
  unfold rms
  rw [sum_twice (fun k => f k * f k), mean_twice]

/-- A row of the kernel's two products is the reference's product. -/
theorem kernel_pre (s g : Fin 2) (x : FVec Ideal S32768x128 .f32) (x2 : FVec Ideal S2x32x64 .f32) (x3 : FVec Ideal S2x2048x256 .f32)
    (b : ℕ) (n : Fin 512) (h : Fin 256) (R : Fin 512 → Fin 2048 → EReal) (P0 P1 w0 w1 : Fin 2048 → EReal)
    (hR : ∀ (n : Fin 512) (j : Fin 2048), R n j = Cert.CmpRef.X x (8192 * b + 16 * n.val + j.val / 128) (j.val % 128))
    (h0 : ∀ j : Fin 2048, P0 j = x2 (ix3 s ⟨j.val / 128, by omega⟩ ⟨j.val % 64, by omega⟩))
    (h1 : ∀ j : Fin 2048, P1 j = x2 (ix3 s ⟨16 + j.val / 128, by omega⟩ ⟨j.val % 64, by omega⟩))
    (hw0 : ∀ j : Fin 2048, w0 j = if g.val = j.val / 64 % 2 then x3 (ix3 s ⟨64 * (j.val / 128) + j.val % 64, by omega⟩ h) else 0)
    (hw1 : ∀ j : Fin 2048, w1 j = if g.val = j.val / 64 % 2 then x3 (ix3 s ⟨1024 + 64 * (j.val / 128) + j.val % 64, by omega⟩ h) else 0) :
    ∑ k : Fin 2048, (R n k + P0 k) * w0 k + ∑ k : Fin 2048, (R ⟨(n.val + 1) % 512, by omega⟩ k + P1 k) * w1 k
      = Cert.CmpRef.pre s x x2 x3 b g.val n.val h := by
  simp only [hw0, hw1]
  rw [sum_group g _ (fun j => x3 (ix3 s ⟨64 * (j.val / 128) + j.val % 64, by omega⟩ h)),
    sum_group g _ (fun j => x3 (ix3 s ⟨1024 + 64 * (j.val / 128) + j.val % 64, by omega⟩ h))]
  unfold Cert.CmpRef.pre
  rw [← sum_halves]
  refine congrArg₂ (fun a b : EReal => a + b) (Finset.sum_congr rfl fun e _ => ?_) (Finset.sum_congr rfl fun e _ => ?_)
  · refine congrArg₂ (fun a b : EReal => a * b) (congrArg₂ (fun a b : EReal => a + b) ?_ ?_) (congrArg x3 ?_)
    · rw [hR]
      unfold Cert.CmpRef.tok lane
      congr 1 <;> dsimp only <;> omega
    · rw [h0]
      refine congrArg x2 ?_
      unfold lane
      congr 1 <;> apply Fin.ext <;> dsimp only <;> omega
    · unfold lane
      congr 1; apply Fin.ext; dsimp only; omega
  · refine congrArg₂ (fun a b : EReal => a * b) (congrArg₂ (fun a b : EReal => a + b) ?_ ?_) (congrArg x3 ?_)
    · rw [hR]
      unfold Cert.CmpRef.tok lane
      congr 1 <;> dsimp only <;> omega
    · rw [h1]
      refine congrArg x2 ?_
      unfold lane
      congr 1 <;> apply Fin.ext <;> dsimp only <;> omega
    · unfold lane
      congr 1; apply Fin.ext; dsimp only; omega

end Cert.CmpVal
end
-- ==== Proof.CmpValue.lean ====
/- The compression call: what the kernel leaves is what the reference computes. -/
module

public import proofs.«01_k».proof.Proof.CmpMath
public import proofs.«01_k».proof.Proof.Gen.CompressIdeal.Value
public import proofs.«01_k».proof.Proof.Gen.CompressReferenceIdeal.Run
public import proofs.«01_k».proof.Proof.Gen.CompressReferenceIdeal.Read

@[expose] public section

namespace Cert.CmpVal

open Cert.CompressIdeal Cert.CompressIdeal.Gen Idealize.ShloMosaic Idealize.ShloMosaic.TcCoe Idealize.ShloMosaic.Tactic Idealize.SL.Sem

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0, 0, 0] ∧ win0_8.index t = ![t.val, 0, 0, 0] :=
  (by decide +kernel : ∀ t : Fin grid0.N, _)

theorem t_lt (t : Fin cfg0.N) : t.val < 4 := lt_of_lt_of_eq t.isLt (by decide +kernel)

theorem rk_blk (c : Dev nD) (t : Fin cfg0.N) (n : Fin 512) (j : Fin 2048) :
    iblk m c 0 t (ix3 0 n j) = Cert.CmpRef.X (m ((c : Thread nD τ).loc main_arg0)) (8192 * t.val + 16 * n.val + j.val / 128) (j.val % 128) := by
  have ht := t_lt t
  refine Eq.trans ?_ ((rows_at (m ((c : Thread nD τ).loc main_arg0)) ⟨t.val, ht⟩ n j).trans
    (Cert.CmpRef.X_at (m ((c : Thread nD τ).loc main_arg0)) _ _ _ rfl rfl))
  rw [← V_rk]
  blk_simp [iblk, idx t]
  blk_ext <;> simp [idx t] <;> omega

theorem rv_blk (c : Dev nD) (t : Fin cfg0.N) (n : Fin 512) (j : Fin 2048) :
    iblk m c 1 t (ix3 0 n j) = Cert.CmpRef.X (m ((c : Thread nD τ).loc main_arg1)) (8192 * t.val + 16 * n.val + j.val / 128) (j.val % 128) := by
  have ht := t_lt t
  refine Eq.trans ?_ ((rows_at (m ((c : Thread nD τ).loc main_arg1)) ⟨t.val, ht⟩ n j).trans
    (Cert.CmpRef.X_at (m ((c : Thread nD τ).loc main_arg1)) _ _ _ rfl rfl))
  rw [← V_rv]
  blk_simp [iblk, idx t]
  blk_ext <;> simp [idx t] <;> omega

theorem wk_blk (c : Dev nD) (t : Fin cfg0.N) (j : Fin 2048) (n : Fin 1024) :
    iblk m c 2 t (ix2 j n) = WW (W1k (m ((c : Thread nD τ).loc main_arg3))) (ix2 j n) := by
  rw [← V_wk]
  blk_simp [iblk, idx t]
  blk_ext <;> simp [idx t]

theorem wv_blk (c : Dev nD) (t : Fin cfg0.N) (j : Fin 2048) (n : Fin 1024) :
    iblk m c 3 t (ix2 j n) = WW (W1v (m ((c : Thread nD τ).loc main_arg3))) (ix2 j n) := by
  rw [← V_wv]
  blk_simp [iblk, idx t]
  blk_ext <;> simp [idx t]

theorem pos_blk (c : Dev nD) (t : Fin cfg0.N) (r : Fin 4) (j : Fin 2048) :
    iblk m c 4 t (ix2 r j) = POS (m ((c : Thread nD τ).loc main_arg2)) (ix2 r j) := by
  rw [← V_pos]
  blk_simp [iblk, idx t]
  blk_ext <;> simp [idx t]

theorem w2_blk (c : Dev nD) (t : Fin cfg0.N) (s : Fin 2) (h : Fin 256) (l : Fin 128) :
    iblk m c 5 t (ix3 s h l) = W2 (m ((c : Thread nD τ).loc main_arg4)) (ix3 s h l) := by
  rw [← V_w2]
  blk_simp [iblk, idx t]
  blk_ext <;> simp [idx t]

theorem kn_blk (c : Dev nD) (t : Fin cfg0.N) (l : Fin 128) :
    iblk m c 6 t (ix2 0 l) = KN (m ((c : Thread nD τ).loc main_arg5)) (ix2 0 l) := by
  rw [← V_kn]
  blk_simp [iblk, idx t]
  blk_ext <;> simp [idx t]

theorem ld_pos0 (c : Dev nD) (t : Fin cfg0.N) (k : Fin 2048) :
    @View.ld (Elt Ideal) S4x2048 .f32 (iblk m c 4 t) r0_1 (ix2 0 k) = iblk m c 4 t (ix2 0 k) := by
  pointwise []
  all_goals blk_ext

theorem ld_pos1 (c : Dev nD) (t : Fin cfg0.N) (k : Fin 2048) :
    @View.ld (Elt Ideal) S4x2048 .f32 (iblk m c 4 t) r0_3 (ix2 0 k) = iblk m c 4 t (ix2 1 k) := by
  pointwise []
  all_goals blk_ext

theorem ld_pos2 (c : Dev nD) (t : Fin cfg0.N) (k : Fin 2048) :
    @View.ld (Elt Ideal) S4x2048 .f32 (iblk m c 4 t) r0_9 (ix2 0 k) = iblk m c 4 t (ix2 2 k) := by
  pointwise []
  all_goals blk_ext

theorem ld_pos3 (c : Dev nD) (t : Fin cfg0.N) (k : Fin 2048) :
    @View.ld (Elt Ideal) S4x2048 .f32 (iblk m c 4 t) r0_10 (ix2 0 k) = iblk m c 4 t (ix2 3 k) := by
  pointwise []
  all_goals blk_ext

theorem ld_wk0 (c : Dev nD) (t : Fin cfg0.N) (j : Fin 2048) (n : Fin 512) :
    @View.ld (Elt Ideal) S2048x1024 .bf16 (iblk m c 2 t) r0_2 (ix2 j n) = iblk m c 2 t (ix2 j ⟨n.val, by omega⟩) := by
  pointwise []
  all_goals blk_ext

theorem ld_wk1 (c : Dev nD) (t : Fin cfg0.N) (j : Fin 2048) (n : Fin 512) :
    @View.ld (Elt Ideal) S2048x1024 .bf16 (iblk m c 2 t) r0_4 (ix2 j n) = iblk m c 2 t (ix2 j ⟨512 + n.val, by omega⟩) := by
  pointwise []
  all_goals blk_ext

theorem ld_wv0 (c : Dev nD) (t : Fin cfg0.N) (j : Fin 2048) (n : Fin 512) :
    @View.ld (Elt Ideal) S2048x1024 .bf16 (iblk m c 3 t) r0_2 (ix2 j n) = iblk m c 3 t (ix2 j ⟨n.val, by omega⟩) := by
  pointwise []
  all_goals blk_ext

theorem ld_wv1 (c : Dev nD) (t : Fin cfg0.N) (j : Fin 2048) (n : Fin 512) :
    @View.ld (Elt Ideal) S2048x1024 .bf16 (iblk m c 3 t) r0_4 (ix2 j n) = iblk m c 3 t (ix2 j ⟨512 + n.val, by omega⟩) := by
  pointwise []
  all_goals blk_ext

theorem ld_w20 (c : Dev nD) (t : Fin cfg0.N) (h : Fin 256) (l : Fin 128) :
    @View.ld (Elt Ideal) S2x256x128 .bf16 (iblk m c 5 t) r0_5 (ix3 0 h l) = iblk m c 5 t (ix3 0 h l) := by
  pointwise []
  all_goals blk_ext

theorem ld_w21 (c : Dev nD) (t : Fin cfg0.N) (h : Fin 256) (l : Fin 128) :
    @View.ld (Elt Ideal) S2x256x128 .bf16 (iblk m c 5 t) r0_11 (ix3 0 h l) = iblk m c 5 t (ix3 1 h l) := by
  pointwise []
  all_goals blk_ext

theorem key_hidden (c : Dev nD) (t : Fin cfg0.N) (g : Fin 2) (r : Fin 512) (h : Fin 256) (n : Fin 512) (hn : n.val = 256 * g.val + h.val) :
    k0_pay3 (F := Ideal) (iblk m c 0 t) (View.ld (iblk m c 4 t) r0_1) (View.ld (iblk m c 2 t) r0_2) (View.ld (iblk m c 4 t) r0_3) (View.ld (iblk m c 2 t) r0_4) (ix2 r n)
      = Cert.CmpRef.gelu (Cert.CmpRef.pre 0 (m ((c : Thread nD τ).loc main_arg0)) (m ((c : Thread nD τ).loc main_arg2)) (m ((c : Thread nD τ).loc main_arg3)) t.val g.val r.val h) := by
  refine (pay3_at _ _ _ _ _ _ _).trans (congrArg Cert.CmpRef.gelu ?_)
  refine kernel_pre 0 g (m ((c : Thread nD τ).loc main_arg0)) (m ((c : Thread nD τ).loc main_arg2)) (m ((c : Thread nD τ).loc main_arg3)) t.val r h (fun n j => iblk m c 0 t (ix3 0 n j)) _ _ _ _
    (fun n j => rk_blk m c t n j) (fun j => ?_) (fun j => ?_) (fun j => ?_) (fun j => ?_)
  · refine (ld_pos0 m c t j).trans ((pos_blk m c t _ j).trans ((POS_at _ _ j).trans (congrArg _ ?_)))
    congr 1 <;> apply Fin.ext <;> dsimp only <;> omega
  · refine (ld_pos1 m c t j).trans ((pos_blk m c t _ j).trans ((POS_at _ _ j).trans (congrArg _ ?_)))
    congr 1
  · refine (ld_wk0 m c t j n).trans ((wk_blk m c t j _).trans ((wk_at _ j _).trans ?_))
    have e : n.val / 256 % 2 = g.val := by omega
    dsimp only
    rw [e]
    refine if_congr Iff.rfl (congrArg _ ?_) rfl
    congr 1 <;> apply Fin.ext <;> dsimp only <;> omega
  · refine (ld_wk1 m c t j n).trans ((wk_blk m c t j _).trans ((wk_at _ j _).trans ?_))
    have e : (512 + n.val) / 256 % 2 = g.val := by omega
    dsimp only
    rw [e]
    refine if_congr Iff.rfl (congrArg _ ?_) rfl
    congr 1 <;> apply Fin.ext <;> dsimp only <;> omega

theorem value_hidden (c : Dev nD) (t : Fin cfg0.N) (g : Fin 2) (r : Fin 512) (h : Fin 256) (n : Fin 512) (hn : n.val = 256 * g.val + h.val) :
    k0_pay9 (F := Ideal) (iblk m c 1 t) (View.ld (iblk m c 4 t) r0_9) (View.ld (iblk m c 3 t) r0_2) (View.ld (iblk m c 4 t) r0_10) (View.ld (iblk m c 3 t) r0_4) (ix2 r n)
      = Cert.CmpRef.gelu (Cert.CmpRef.pre 1 (m ((c : Thread nD τ).loc main_arg1)) (m ((c : Thread nD τ).loc main_arg2)) (m ((c : Thread nD τ).loc main_arg3)) t.val g.val r.val h) := by
  refine (pay9_at _ _ _ _ _ _ _).trans (congrArg Cert.CmpRef.gelu ?_)
  refine kernel_pre 1 g (m ((c : Thread nD τ).loc main_arg1)) (m ((c : Thread nD τ).loc main_arg2)) (m ((c : Thread nD τ).loc main_arg3)) t.val r h (fun n j => iblk m c 1 t (ix3 0 n j)) _ _ _ _
    (fun n j => rv_blk m c t n j) (fun j => ?_) (fun j => ?_) (fun j => ?_) (fun j => ?_)
  · refine (ld_pos2 m c t j).trans ((pos_blk m c t _ j).trans ((POS_at _ _ j).trans (congrArg _ ?_)))
    congr 1 <;> apply Fin.ext <;> dsimp only <;> omega
  · refine (ld_pos3 m c t j).trans ((pos_blk m c t _ j).trans ((POS_at _ _ j).trans (congrArg _ ?_)))
    congr 1
  · refine (ld_wv0 m c t j n).trans ((wv_blk m c t j _).trans ((wv_at _ j _).trans ?_))
    have e : n.val / 256 % 2 = g.val := by omega
    dsimp only
    rw [e]
    refine if_congr Iff.rfl (congrArg _ ?_) rfl
    congr 1 <;> apply Fin.ext <;> dsimp only <;> omega
  · refine (ld_wv1 m c t j n).trans ((wv_blk m c t j _).trans ((wv_at _ j _).trans ?_))
    have e : (512 + n.val) / 256 % 2 = g.val := by omega
    dsimp only
    rw [e]
    refine if_congr Iff.rfl (congrArg _ ?_) rfl
    congr 1 <;> apply Fin.ext <;> dsimp only <;> omega

theorem key_row (c : Dev nD) (t : Fin cfg0.N) (g : Fin 2) (r : Fin 512) (l : Fin 128) (z : Fin 256 → EReal)
    (hz : ∀ h : Fin 256, z h = Cert.CmpRef.gelu (Cert.CmpRef.pre 0 (m ((c : Thread nD τ).loc main_arg0)) (m ((c : Thread nD τ).loc main_arg2)) (m ((c : Thread nD τ).loc main_arg3)) t.val g.val r.val h)) :
    ∑ h : Fin 256, z h * @View.ld (Elt Ideal) S2x256x128 .bf16 (iblk m c 5 t) r0_5 (ix3 0 h l)
      = Cert.CmpRef.act 0 (m ((c : Thread nD τ).loc main_arg0)) (m ((c : Thread nD τ).loc main_arg2)) (m ((c : Thread nD τ).loc main_arg3)) (m ((c : Thread nD τ).loc main_arg4)) t.val g.val r.val ⟨l.val % 64, by omega⟩ := by
  unfold Cert.CmpRef.act
  refine Finset.sum_congr rfl fun h _ => ?_
  rw [hz]
  exact congrArg _ ((ld_w20 m c t h l).trans ((w2_blk m c t _ h l).trans (W2_at _ _ h l)))

theorem value_row (c : Dev nD) (t : Fin cfg0.N) (g : Fin 2) (r : Fin 512) (l : Fin 128) (z : Fin 256 → EReal)
    (hz : ∀ h : Fin 256, z h = Cert.CmpRef.gelu (Cert.CmpRef.pre 1 (m ((c : Thread nD τ).loc main_arg1)) (m ((c : Thread nD τ).loc main_arg2)) (m ((c : Thread nD τ).loc main_arg3)) t.val g.val r.val h)) :
    ∑ h : Fin 256, z h * @View.ld (Elt Ideal) S2x256x128 .bf16 (iblk m c 5 t) r0_11 (ix3 0 h l)
      = Cert.CmpRef.act 1 (m ((c : Thread nD τ).loc main_arg1)) (m ((c : Thread nD τ).loc main_arg2)) (m ((c : Thread nD τ).loc main_arg3)) (m ((c : Thread nD τ).loc main_arg4)) t.val g.val r.val ⟨l.val % 64, by omega⟩ := by
  unfold Cert.CmpRef.act
  refine Finset.sum_congr rfl fun h _ => ?_
  rw [hz]
  exact congrArg _ ((ld_w21 m c t h l).trans ((w2_blk m c t _ h l).trans (W2_at _ _ h l)))

theorem key_row_norm (c : Dev nD) (t : Fin cfg0.N) (g : Fin 2) (r : Fin 512) (l : Fin 128) (f : Fin 128 → EReal) (w : EReal)
    (hf : ∀ l : Fin 128, f l = Cert.CmpRef.act 0 (m ((c : Thread nD τ).loc main_arg0)) (m ((c : Thread nD τ).loc main_arg2)) (m ((c : Thread nD τ).loc main_arg3)) (m ((c : Thread nD τ).loc main_arg4)) t.val g.val r.val ⟨l.val % 64, by omega⟩)
    (hw : w = iblk m c 6 t (ix2 0 l)) :
    rms f w l = Cert.CmpRef.nrm (m ((c : Thread nD τ).loc main_arg0)) (m ((c : Thread nD τ).loc main_arg2)) (m ((c : Thread nD τ).loc main_arg3)) (m ((c : Thread nD τ).loc main_arg4)) (m ((c : Thread nD τ).loc main_arg5)) t.val g.val r.val ⟨l.val % 64, by omega⟩ := by
  obtain rfl : f = fun l : Fin 128 => Cert.CmpRef.act 0 (m ((c : Thread nD τ).loc main_arg0)) (m ((c : Thread nD τ).loc main_arg2)) (m ((c : Thread nD τ).loc main_arg3)) (m ((c : Thread nD τ).loc main_arg4)) t.val g.val r.val ⟨l.val % 64, by omega⟩ := funext hf
  refine (rms_twice (fun l => Cert.CmpRef.act 0 (m ((c : Thread nD τ).loc main_arg0)) (m ((c : Thread nD τ).loc main_arg2)) (m ((c : Thread nD τ).loc main_arg3)) (m ((c : Thread nD τ).loc main_arg4)) t.val g.val r.val l) w l).trans ?_
  unfold Cert.CmpRef.nrm
  exact congrArg _ (hw.trans ((kn_blk m c t l).trans (KN_at _ l)))

theorem key_point (c : Dev nD) (t : Fin cfg0.N) (g : Fin 2) (r : Fin 512) (l : Fin 128) :
    out0_7 (iblk m c 0 t) (iblk m c 1 t) (iblk m c 2 t) (iblk m c 3 t) (iblk m c 4 t) (iblk m c 5 t) (iblk m c 6 t) (ix4 0 g r l)
      = Cert.CmpRef.nrm (m ((c : Thread nD τ).loc main_arg0)) (m ((c : Thread nD τ).loc main_arg2)) (m ((c : Thread nD τ).loc main_arg3)) (m ((c : Thread nD τ).loc main_arg4)) (m ((c : Thread nD τ).loc main_arg5)) t.val g.val r.val ⟨l.val % 64, by omega⟩ := by
  frame_out
  canon_tiles x h
  case piece0 =>
    idx_vars x
    obtain rfl : x0 = 0 := Subsingleton.elim _ _
    obtain rfl : x1 = 0 := Subsingleton.elim _ _
    obtain rfl : r = x2 := Fin.ext h2
    obtain rfl : l = x3 := Fin.ext h3
    refine (pay8_at _ _ _ _ _).trans ?_
    exact key_row_norm m c t g r l _ _ (fun l => key_row m c t g r l _ fun h => key_hidden m c t g r h _ (by dsimp only; omega)) rfl
  case piece1 =>
    idx_vars x
    obtain rfl : x0 = 0 := Subsingleton.elim _ _
    obtain rfl : x1 = 0 := Subsingleton.elim _ _
    obtain rfl : r = x2 := Fin.ext h2
    obtain rfl : l = x3 := Fin.ext h3
    refine (pay6_at _ _ _ _ _).trans ?_
    exact key_row_norm m c t g r l _ _ (fun l => key_row m c t g r l _ fun h => (pay4_at _ _ _ _ _ _ _).trans
      (key_hidden m c t g r h _ (by dsimp only; omega))) rfl

theorem value_point (c : Dev nD) (t : Fin cfg0.N) (g : Fin 2) (r : Fin 512) (l : Fin 128) :
    out0_8 (iblk m c 0 t) (iblk m c 1 t) (iblk m c 2 t) (iblk m c 3 t) (iblk m c 4 t) (iblk m c 5 t) (iblk m c 6 t) (ix4 0 g r l)
      = Cert.CmpRef.act 1 (m ((c : Thread nD τ).loc main_arg1)) (m ((c : Thread nD τ).loc main_arg2)) (m ((c : Thread nD τ).loc main_arg3)) (m ((c : Thread nD τ).loc main_arg4)) t.val g.val r.val ⟨l.val % 64, by omega⟩ := by
  frame_out
  canon_tiles x h
  case piece0 =>
    idx_vars x
    obtain rfl : x0 = 0 := Subsingleton.elim _ _
    obtain rfl : x1 = 0 := Subsingleton.elim _ _
    obtain rfl : r = x2 := Fin.ext h2
    obtain rfl : l = x3 := Fin.ext h3
    refine (pay2_at _ _ _ _).trans ?_
    exact value_row m c t g r l _ fun h => value_hidden m c t g r h _ (by dsimp only; omega)
  case piece1 =>
    idx_vars x
    obtain rfl : x0 = 0 := Subsingleton.elim _ _
    obtain rfl : x1 = 0 := Subsingleton.elim _ _
    obtain rfl : r = x2 := Fin.ext h2
    obtain rfl : l = x3 := Fin.ext h3
    refine (pay1_at _ _ _ _).trans ?_
    exact value_row m c t g r l _ fun h => (pay10_at _ _ _ _ _ _ _).trans (value_hidden m c t g r h _ (by dsimp only; omega))

theorem final_keys (c : Dev nD) : (dats m 0 c).arrAt 7 cfg0.N = Cert.CompressReferenceIdeal.Read.val_main_v76 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  obtain rfl : y0 = 0 := Subsingleton.elim _ _
  refine (key_point m c t _ _ _).trans ?_
  rw [Cert.CmpRef.keys_out]
  have e0 : (((View.whole main_v79_0).slice (win0_7.rect t)).emb (ix4 0 y1 y2 y3) 0).val = t.val := by
    simp [idx t, Pipeline.WinKind.off]
  have e1 : (((View.whole main_v79_0).slice (win0_7.rect t)).emb (ix4 0 y1 y2 y3) 1).val = y1.val := by
    simp [idx t, Pipeline.WinKind.off]
  have e2 : (((View.whole main_v79_0).slice (win0_7.rect t)).emb (ix4 0 y1 y2 y3) 2).val = y2.val := by
    simp [idx t, Pipeline.WinKind.off]
  have e3 : (((View.whole main_v79_0).slice (win0_7.rect t)).emb (ix4 0 y1 y2 y3) 3).val = y3.val := by
    simp [idx t, Pipeline.WinKind.off]
  simp only [e0, e1, e2, e3]

theorem final_values (c : Dev nD) : (dats m 0 c).arrAt 8 cfg0.N = Cert.CompressReferenceIdeal.Read.val_main_v78 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Subsingleton.elim _ _
  refine (value_point m c t _ _ _).trans ?_
  rw [Cert.CmpRef.values_out]
  have e0 : (((View.whole main_v79_1).slice (win0_8.rect t)).emb (ix4 0 y1 y2 y3) 0).val = t.val := by
    simp [idx t, Pipeline.WinKind.off]
  have e1 : (((View.whole main_v79_1).slice (win0_8.rect t)).emb (ix4 0 y1 y2 y3) 1).val = y1.val := by
    simp [idx t, Pipeline.WinKind.off]
  have e2 : (((View.whole main_v79_1).slice (win0_8.rect t)).emb (ix4 0 y1 y2 y3) 2).val = y2.val := by
    simp [idx t, Pipeline.WinKind.off]
  have e3 : (((View.whole main_v79_1).slice (win0_8.rect t)).emb (ix4 0 y1 y2 y3) 3).val = y3.val := by
    simp [idx t, Pipeline.WinKind.off]
  simp only [e0, e1, e2, e3]

theorem keys_of (c : Dev nD) (a0 : FVec Ideal S32768x128 .f32) (a2 : FVec Ideal S2x32x64 .f32) (a3 : FVec Ideal S2x2048x256 .f32) (a4 : FVec Ideal S2x256x64 .f32) (a5 : FVec Ideal S3x64 .f32)
    (e0 : a0 = m ((c : Thread nD τ).loc main_arg0)) (e2 : a2 = m ((c : Thread nD τ).loc main_arg2)) (e3 : a3 = m ((c : Thread nD τ).loc main_arg3)) (e4 : a4 = m ((c : Thread nD τ).loc main_arg4)) (e5 : a5 = m ((c : Thread nD τ).loc main_arg5)) :
    Cert.CompressReferenceIdeal.Read.val_main_v76 (F := Ideal) a0 a2 a3 a4 a5 = (dats m 0 c).arrAt 7 cfg0.N := by
  subst e0 e2 e3 e4 e5
  exact (final_keys m c).symm

theorem values_of (c : Dev nD) (a1 : FVec Ideal S32768x128 .f32) (a2 : FVec Ideal S2x32x64 .f32) (a3 : FVec Ideal S2x2048x256 .f32) (a4 : FVec Ideal S2x256x64 .f32)
    (e1 : a1 = m ((c : Thread nD τ).loc main_arg1)) (e2 : a2 = m ((c : Thread nD τ).loc main_arg2)) (e3 : a3 = m ((c : Thread nD τ).loc main_arg3)) (e4 : a4 = m ((c : Thread nD τ).loc main_arg4)) :
    Cert.CompressReferenceIdeal.Read.val_main_v78 (F := Ideal) a1 a2 a3 a4 = (dats m 0 c).arrAt 8 cfg0.N := by
  subst e1 e2 e3 e4
  exact (final_values m c).symm

end Cert.CmpVal
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.SbValue
public import proofs.«01_k».proof.Proof.Gen.Ffn.Frame
public import proofs.«01_k».proof.Proof.FfnValue
public import proofs.«01_k».proof.Proof.Gen.Merge.Frame
public import proofs.«01_k».proof.Proof.MergeValue
public import proofs.«01_k».proof.Proof.Gen.Inproj.Frame
public import proofs.«01_k».proof.Proof.InprojQkv
public import proofs.«01_k».proof.Proof.Gen.Compress.Frame
public import proofs.«01_k».proof.Proof.CmpValue
public import Idealize.ShloMosaic.Adequacy
public import Idealize.ShloMosaic.Init
public import Idealize.ShloMosaic.Lib.Claim

@[expose] public section

noncomputable section

namespace Cert.Proof

open Idealize.ShloMosaic Idealize.SL.Sem Cert.Kernel

theorem compress : Cert.algebraic_CompressIdeal_CompressReferenceIdeal (hCompressIdeal := Cert.CompressIdeal.Gen.facts)
    (hCompressReferenceIdeal := Cert.CompressReferenceIdeal.Gen.facts) := by
  pair_intro
  · run_from Cert.CompressIdeal.Value.run_blocks m g
  · refine (θ_run Cert.CompressReferenceIdeal.defs _ _).mono (fun r h c => ⟨?_, ?_, (h c).2.2⟩) (Cert.CompressReferenceIdeal.Value.run m' g')
    · refine (h c).1.trans ((Cert.CompressReferenceIdeal.Read.val_main_v76_eq m' c).trans ?_)
      exact Cert.CmpVal.keys_of m c _ _ _ _ _ (hagree c).1 (hagree c).2.2.1 (hagree c).2.2.2.1 (hagree c).2.2.2.2.1 (hagree c).2.2.2.2.2
    · refine (h c).2.1.trans ((Cert.CompressReferenceIdeal.Read.val_main_v78_eq m' c).trans ?_)
      exact Cert.CmpVal.values_of m c _ _ _ _ (hagree c).2.1 (hagree c).2.2.1 (hagree c).2.2.2.1 (hagree c).2.2.2.2.1

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.Inproj.Gen.facts, Cert.InprojIdeal.Gen.facts, Cert.InprojReferenceIdeal.Gen.facts, Cert.Compress.Gen.facts, Cert.CompressIdeal.Gen.facts, Cert.CompressReferenceIdeal.Gen.facts, by
  refine ⟨fun m ρ _ => Cert.Kernel.Gen.frame m ρ, fun m ρ _ => Cert.KernelIdeal.Gen.frame m ρ, ?_,
    fun m ρ _ => Cert.Ffn.Gen.frame m ρ, fun m ρ _ => Cert.FfnIdeal.Gen.frame m ρ, ?_,
    fun m ρ _ => Cert.Merge.Gen.frame m ρ, fun m ρ _ => Cert.MergeIdeal.Gen.frame m ρ, ?_,
    fun m ρ _ => Cert.Inproj.Gen.frame m ρ, fun m ρ _ => Cert.InprojIdeal.Gen.frame m ρ, ?_,
    fun m ρ _ => Cert.Compress.Gen.frame m ρ, fun m ρ _ => Cert.CompressIdeal.Gen.frame m ρ, ?_,
    trivial, ?_, trivial, ?_, trivial, ?_, trivial, ?_, trivial, ?_⟩
  · exact fun m g _ => (θ_run Cert.ReferenceIdeal.defs _ _).mono (fun r h => ⟨fun c => (h c).2,
      sem_eq_zero_of_no_sems (by decide) r.2⟩) (Cert.ReferenceIdeal.Value.run m g)
  · exact fun m g _ => (θ_run Cert.FfnReferenceIdeal.defs _ _).mono (fun r h => ⟨fun c => (h c).2,
      sem_eq_zero_of_no_sems (by decide) r.2⟩) (Cert.FfnReferenceIdeal.Value.run m g)
  · exact fun m g _ => (θ_run Cert.MergeReferenceIdeal.defs _ _).mono (fun r h => ⟨fun c => (h c).2,
      sem_eq_zero_of_no_sems (by decide) r.2⟩) (Cert.MergeReferenceIdeal.Value.run m g)
  · exact fun m g _ => (θ_run Cert.InprojReferenceIdeal.defs _ _).mono (fun r h => ⟨fun c => (h c).2.2.2.2,
      sem_eq_zero_of_no_sems (by decide) r.2⟩) (Cert.InprojReferenceIdeal.Value.run m g)
  · exact fun m g _ => (θ_run Cert.CompressReferenceIdeal.defs _ _).mono (fun r h => ⟨fun c => (h c).2.2,
      sem_eq_zero_of_no_sems (by decide) r.2⟩) (Cert.CompressReferenceIdeal.Value.run m g)
  · pair_intro
    · run_from Cert.KernelIdeal.Value.run_blocks m g
    · refine (θ_run Cert.ReferenceIdeal.defs _ _).mono (fun r h c => ⟨?_, (h c).2⟩) (Cert.ReferenceIdeal.Value.run m' g')
      exact (h c).1.trans ((Cert.ReferenceIdeal.Read.val_main_v30_eq m' c).trans
        ((congrArg (Cert.ReferenceIdeal.Read.val_main_v30 (F := Ideal)) (hagree c)).trans (Cert.SbVal.final m c).symm))
  · pair_intro
    · run_from Cert.FfnIdeal.Value.run_blocks m g
    · run_from Cert.FfnReferenceIdeal.Value.run m' g'
      exact (Cert.FfnVal.final m c).symm
  · pair_intro
    · run_from Cert.MergeIdeal.Value.run_blocks m g
    · run_from Cert.MergeReferenceIdeal.Value.run m' g'
      unfold Cert.MergeReferenceIdeal.Value.res_main_v57
      simp only [hagree c]
      exact (Cert.MergeVal.final m c).symm
  · pair_intro
    · run_from Cert.InprojIdeal.Value.run_blocks m g
    · run_from Cert.InprojReferenceIdeal.Value.run m' g'
      · unfold Cert.InprojReferenceIdeal.Value.res_main_v132
        obtain ⟨e0, e1, e2, e3, e4, e5, e6⟩ := hagree c
        rw [e0, e1, e2, e3, e4, e5, e6]
        exact (Cert.InprojVal.final_qkv m c).symm
      · exact (Cert.InprojVal.final_kc m c).symm
      · exact (Cert.InprojVal.final_vc m c).symm
      · exact (Cert.InprojVal.final_gate m c).symm
  · exact compress⟩

end Cert.Proof

end
